-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 256]⟩ ⟨2, ![768, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 256]⟩ ⟨2, ![768, 8192]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 256]⟩ ⟨2, ![768, 8192]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 768]⟩ ⟨2, ![8192, 768]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v87) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x768 : Shape := ⟨3, ![2, 256, 768]⟩
abbrev S768x256 : Shape := ⟨2, ![768, 256]⟩
abbrev S256x768 : Shape := ⟨2, ![256, 768]⟩
abbrev S512x768 : Shape := ⟨2, ![512, 768]⟩
abbrev S32x16x768 : Shape := ⟨3, ![32, 16, 768]⟩
abbrev S16x768 : Shape := ⟨2, ![16, 768]⟩
abbrev S32 : Shape := ⟨1, ![32]⟩
abbrev S_ : Shape := ⟨0, ![]⟩
abbrev S256x256 : Shape := ⟨2, ![256, 256]⟩
abbrev S1x256x768 : Shape := ⟨3, ![1, 256, 768]⟩
abbrev S256x1 : Shape := ⟨2, ![256, 1]⟩
abbrev S256x255 : Shape := ⟨2, ![256, 255]⟩
abbrev S256x64 : Shape := ⟨2, ![256, 64]⟩
abbrev S256 : Shape := ⟨1, ![256]⟩
abbrev S1 : Shape := ⟨1, ![1]⟩
abbrev S1x16x768 : Shape := ⟨3, ![1, 16, 768]⟩

abbrev nBuf : Space → Nat
  | .hbm => 6
  | .vmem => 9
  | .smem => 0
  | _ => 0

abbrev bufTy : (tb : Table) → Fin (tcTables nBuf tb) → BufTy
  | .hbm, ⟨0, _⟩ => ⟨S2x256x768, .bf16⟩
  | .hbm, ⟨1, _⟩ => ⟨S768x256, .bf16⟩
  | .hbm, ⟨2, _⟩ => ⟨S768x256, .bf16⟩
  | .hbm, ⟨3, _⟩ => ⟨S768x256, .bf16⟩
  | .hbm, ⟨4, _⟩ => ⟨S256x768, .bf16⟩
  | .hbm, ⟨5, _⟩ => ⟨S512x768, .bf16⟩
  | .local _ .vmem, ⟨0, _⟩ => ⟨S2x256x768, .bf16⟩
  | .local _ .vmem, ⟨1, _⟩ => ⟨S768x256, .bf16⟩
  | .local _ .vmem, ⟨2, _⟩ => ⟨S768x256, .bf16⟩
  | .local _ .vmem, ⟨3, _⟩ => ⟨S768x256, .bf16⟩
  | .local _ .vmem, ⟨4, _⟩ => ⟨S256x768, .bf16⟩
  | .local _ .vmem, ⟨5, _⟩ => ⟨S512x768, .bf16⟩
  | .local _ .vmem, ⟨6, _⟩ => ⟨S512x768, .bf16⟩
  | .local _ .vmem, ⟨7, _⟩ => ⟨S32x16x768, .bf16⟩
  | .local _ .vmem, ⟨8, _⟩ => ⟨S16x768, .bf16⟩
  | _, _ => ⟨S2x256x768, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v21 : BitVec 32 := Scalar.xori v2 c1_i32_5
  let c1_i32_7 : BitVec 32 := 1#32
  let v22 : BitVec 32 := Scalar.muli v21 c1_i32_7
  let v23 : BitVec 32 := Scalar.addi c0_i32_8 v22
  v23.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v24 : BitVec 32 := Scalar.xori v2 c2_i32
  let c1_i32_10 : BitVec 32 := 1#32
  let v25 : BitVec 32 := Scalar.muli v24 c1_i32_10
  let v26 : BitVec 32 := Scalar.addi c0_i32_11 v25
  v26.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v27 : BitVec 32 := Scalar.xori v2 c3_i32
  let c1_i32_13 : BitVec 32 := 1#32
  let v28 : BitVec 32 := Scalar.muli v27 c1_i32_13
  let v29 : BitVec 32 := Scalar.addi c0_i32_14 v28
  v29.toNat
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v30 : BitVec 32 := Scalar.xori v2 c4_i32
  let c1_i32_16 : BitVec 32 := 1#32
  let v31 : BitVec 32 := Scalar.muli v30 c1_i32_16
  let v32 : BitVec 32 := Scalar.addi c0_i32_17 v31
  v32.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v33 : BitVec 32 := Scalar.xori v2 c5_i32
  let c1_i32_19 : BitVec 32 := 1#32
  let v34 : BitVec 32 := Scalar.muli v33 c1_i32_19
  let v35 : BitVec 32 := Scalar.addi c0_i32_20 v34
  v35.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v36 : BitVec 32 := Scalar.xori v2 c6_i32
  let c1_i32_22 : BitVec 32 := 1#32
  let v37 : BitVec 32 := Scalar.muli v36 c1_i32_22
  let v38 : BitVec 32 := Scalar.addi c0_i32_23 v37
  v38.toNat
def k0_dev7 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v39 : BitVec 32 := Scalar.xori v2 c7_i32
  let c1_i32_25 : BitVec 32 := 1#32
  let v40 : BitVec 32 := Scalar.muli v39 c1_i32_25
  let v41 : BitVec 32 := Scalar.addi c0_i32_26 v40
  v41.toNat
def k0_dev8 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v42 : BitVec 32 := Scalar.xori v2 c8_i32
  let c1_i32_28 : BitVec 32 := 1#32
  let v43 : BitVec 32 := Scalar.muli v42 c1_i32_28
  let v44 : BitVec 32 := Scalar.addi c0_i32_29 v43
  v44.toNat
def k0_dev9 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v45 : BitVec 32 := Scalar.xori v2 c9_i32
  let c1_i32_31 : BitVec 32 := 1#32
  let v46 : BitVec 32 := Scalar.muli v45 c1_i32_31
  let v47 : BitVec 32 := Scalar.addi c0_i32_32 v46
  v47.toNat
def k0_dev10 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v48 : BitVec 32 := Scalar.xori v2 c10_i32
  let c1_i32_34 : BitVec 32 := 1#32
  let v49 : BitVec 32 := Scalar.muli v48 c1_i32_34
  let v50 : BitVec 32 := Scalar.addi c0_i32_35 v49
  v50.toNat
def k0_dev11 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v51 : BitVec 32 := Scalar.xori v2 c11_i32
  let c1_i32_37 : BitVec 32 := 1#32
  let v52 : BitVec 32 := Scalar.muli v51 c1_i32_37
  let v53 : BitVec 32 := Scalar.addi c0_i32_38 v52
  v53.toNat
def k0_dev12 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v54 : BitVec 32 := Scalar.xori v2 c12_i32
  let c1_i32_40 : BitVec 32 := 1#32
  let v55 : BitVec 32 := Scalar.muli v54 c1_i32_40
  let v56 : BitVec 32 := Scalar.addi c0_i32_41 v55
  v56.toNat
def k0_dev13 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v57 : BitVec 32 := Scalar.xori v2 c13_i32
  let c1_i32_43 : BitVec 32 := 1#32
  let v58 : BitVec 32 := Scalar.muli v57 c1_i32_43
  let v59 : BitVec 32 := Scalar.addi c0_i32_44 v58
  v59.toNat
def k0_dev14 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v60 : BitVec 32 := Scalar.xori v2 c14_i32
  let c1_i32_46 : BitVec 32 := 1#32
  let v61 : BitVec 32 := Scalar.muli v60 c1_i32_46
  let v62 : BitVec 32 := Scalar.addi c0_i32_47 v61
  v62.toNat
def k0_dev15 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v63 : BitVec 32 := Scalar.xori v2 c15_i32
  let c1_i32_49 : BitVec 32 := 1#32
  let v64 : BitVec 32 := Scalar.muli v63 c1_i32_49
  let v65 : BitVec 32 := Scalar.addi c0_i32_50 v64
  v65.toNat
def k0_dev16 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_51 : BitVec 32 := 16#32
  let v66 : BitVec 32 := Scalar.xori v2 c16_i32_51
  let c1_i32_53 : BitVec 32 := 1#32
  let v67 : BitVec 32 := Scalar.muli v66 c1_i32_53
  let v68 : BitVec 32 := Scalar.addi c0_i32_54 v67
  v68.toNat
def k0_dev17 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v69 : BitVec 32 := Scalar.xori v2 c17_i32
  let c1_i32_56 : BitVec 32 := 1#32
  let v70 : BitVec 32 := Scalar.muli v69 c1_i32_56
  let v71 : BitVec 32 := Scalar.addi c0_i32_57 v70
  v71.toNat
def k0_dev18 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.xori v2 c18_i32
  let c1_i32_59 : BitVec 32 := 1#32
  let v73 : BitVec 32 := Scalar.muli v72 c1_i32_59
  let v74 : BitVec 32 := Scalar.addi c0_i32_60 v73
  v74.toNat
def k0_dev19 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v75 : BitVec 32 := Scalar.xori v2 c19_i32
  let c1_i32_62 : BitVec 32 := 1#32
  let v76 : BitVec 32 := Scalar.muli v75 c1_i32_62
  let v77 : BitVec 32 := Scalar.addi c0_i32_63 v76
  v77.toNat
def k0_dev20 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v78 : BitVec 32 := Scalar.xori v2 c20_i32
  let c1_i32_65 : BitVec 32 := 1#32
  let v79 : BitVec 32 := Scalar.muli v78 c1_i32_65
  let v80 : BitVec 32 := Scalar.addi c0_i32_66 v79
  v80.toNat
def k0_dev21 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v81 : BitVec 32 := Scalar.xori v2 c21_i32
  let c1_i32_68 : BitVec 32 := 1#32
  let v82 : BitVec 32 := Scalar.muli v81 c1_i32_68
  let v83 : BitVec 32 := Scalar.addi c0_i32_69 v82
  v83.toNat
def k0_dev22 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v84 : BitVec 32 := Scalar.xori v2 c22_i32
  let c1_i32_71 : BitVec 32 := 1#32
  let v85 : BitVec 32 := Scalar.muli v84 c1_i32_71
  let v86 : BitVec 32 := Scalar.addi c0_i32_72 v85
  v86.toNat
def k0_dev23 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v87 : BitVec 32 := Scalar.xori v2 c23_i32
  let c1_i32_74 : BitVec 32 := 1#32
  let v88 : BitVec 32 := Scalar.muli v87 c1_i32_74
  let v89 : BitVec 32 := Scalar.addi c0_i32_75 v88
  v89.toNat
def k0_dev24 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v90 : BitVec 32 := Scalar.xori v2 c24_i32
  let c1_i32_77 : BitVec 32 := 1#32
  let v91 : BitVec 32 := Scalar.muli v90 c1_i32_77
  let v92 : BitVec 32 := Scalar.addi c0_i32_78 v91
  v92.toNat
def k0_dev25 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v93 : BitVec 32 := Scalar.xori v2 c25_i32
  let c1_i32_80 : BitVec 32 := 1#32
  let v94 : BitVec 32 := Scalar.muli v93 c1_i32_80
  let v95 : BitVec 32 := Scalar.addi c0_i32_81 v94
  v95.toNat
def k0_dev26 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v96 : BitVec 32 := Scalar.xori v2 c26_i32
  let c1_i32_83 : BitVec 32 := 1#32
  let v97 : BitVec 32 := Scalar.muli v96 c1_i32_83
  let v98 : BitVec 32 := Scalar.addi c0_i32_84 v97
  v98.toNat
def k0_dev27 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v99 : BitVec 32 := Scalar.xori v2 c27_i32
  let c1_i32_86 : BitVec 32 := 1#32
  let v100 : BitVec 32 := Scalar.muli v99 c1_i32_86
  let v101 : BitVec 32 := Scalar.addi c0_i32_87 v100
  v101.toNat
def k0_dev28 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v102 : BitVec 32 := Scalar.xori v2 c28_i32
  let c1_i32_89 : BitVec 32 := 1#32
  let v103 : BitVec 32 := Scalar.muli v102 c1_i32_89
  let v104 : BitVec 32 := Scalar.addi c0_i32_90 v103
  v104.toNat
def k0_dev29 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v105 : BitVec 32 := Scalar.xori v2 c29_i32
  let c1_i32_92 : BitVec 32 := 1#32
  let v106 : BitVec 32 := Scalar.muli v105 c1_i32_92
  let v107 : BitVec 32 := Scalar.addi c0_i32_93 v106
  v107.toNat
def k0_dev30 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v108 : BitVec 32 := Scalar.xori v2 c30_i32
  let c1_i32_95 : BitVec 32 := 1#32
  let v109 : BitVec 32 := Scalar.muli v108 c1_i32_95
  let v110 : BitVec 32 := Scalar.addi c0_i32_96 v109
  v110.toNat
def k0_dev31 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v111 : BitVec 32 := Scalar.xori v2 c31_i32
  let c1_i32_98 : BitVec 32 := 1#32
  let v112 : BitVec 32 := Scalar.muli v111 c1_i32_98
  let v113 : BitVec 32 := Scalar.addi c0_i32_99 v112
  v113.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let v198 : Index := Scalar.indexCast v19
  let c0_130 : Index := 0#32
  let c0_131 : Index := 0#32
  ![v198.toNat, 0, 0]
def k0_off2 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let v197 : BitVec 32 := Scalar.muli c256_i32 v19
  let v302 : Index := Scalar.indexCast v197
  let c0_160 : Index := 0#32
  ![v302.toNat, 0]
def k0_off3 (d0 : Dev nD) (c1_i32_161 : BitVec 32) : Fin 2 → Nat :=
  let c16_i32_162 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v306 : BitVec 32 := Scalar.xori v2 c1_i32_161
  let v307 : BitVec 32 := Scalar.muli c16_i32_162 v306
  let c0_i32_170 : BitVec 32 := 0#32
  ![v307.toNat, 0]
def k0_dev32 (d0 : Dev nD) : Nat :=
  let c0_i32_167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_161 : BitVec 32 := 1#32
  let v306 : BitVec 32 := Scalar.xori v2 c1_i32_161
  let c1_i32_166 : BitVec 32 := 1#32
  let v308 : BitVec 32 := Scalar.muli v306 c1_i32_166
  let v309 : BitVec 32 := Scalar.addi c0_i32_167 v308
  v309.toNat
def k0_dev33 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_171 : BitVec 32 := 2#32
  let v317 : BitVec 32 := Scalar.xori v2 c2_i32_171
  let c1_i32_176 : BitVec 32 := 1#32
  let v319 : BitVec 32 := Scalar.muli v317 c1_i32_176
  let v320 : BitVec 32 := Scalar.addi c0_i32_177 v319
  v320.toNat
def k0_dev34 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_181 : BitVec 32 := 3#32
  let v328 : BitVec 32 := Scalar.xori v2 c3_i32_181
  let c1_i32_186 : BitVec 32 := 1#32
  let v330 : BitVec 32 := Scalar.muli v328 c1_i32_186
  let v331 : BitVec 32 := Scalar.addi c0_i32_187 v330
  v331.toNat
def k0_dev35 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_191 : BitVec 32 := 4#32
  let v339 : BitVec 32 := Scalar.xori v2 c4_i32_191
  let c1_i32_196 : BitVec 32 := 1#32
  let v341 : BitVec 32 := Scalar.muli v339 c1_i32_196
  let v342 : BitVec 32 := Scalar.addi c0_i32_197 v341
  v342.toNat
def k0_dev36 (d0 : Dev nD) : Nat :=
  let c0_i32_207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_201 : BitVec 32 := 5#32
  let v350 : BitVec 32 := Scalar.xori v2 c5_i32_201
  let c1_i32_206 : BitVec 32 := 1#32
  let v352 : BitVec 32 := Scalar.muli v350 c1_i32_206
  let v353 : BitVec 32 := Scalar.addi c0_i32_207 v352
  v353.toNat
def k0_dev37 (d0 : Dev nD) : Nat :=
  let c0_i32_217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_211 : BitVec 32 := 6#32
  let v361 : BitVec 32 := Scalar.xori v2 c6_i32_211
  let c1_i32_216 : BitVec 32 := 1#32
  let v363 : BitVec 32 := Scalar.muli v361 c1_i32_216
  let v364 : BitVec 32 := Scalar.addi c0_i32_217 v363
  v364.toNat
def k0_dev38 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_221 : BitVec 32 := 7#32
  let v372 : BitVec 32 := Scalar.xori v2 c7_i32_221
  let c1_i32_226 : BitVec 32 := 1#32
  let v374 : BitVec 32 := Scalar.muli v372 c1_i32_226
  let v375 : BitVec 32 := Scalar.addi c0_i32_227 v374
  v375.toNat
def k0_dev39 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_231 : BitVec 32 := 8#32
  let v383 : BitVec 32 := Scalar.xori v2 c8_i32_231
  let c1_i32_236 : BitVec 32 := 1#32
  let v385 : BitVec 32 := Scalar.muli v383 c1_i32_236
  let v386 : BitVec 32 := Scalar.addi c0_i32_237 v385
  v386.toNat
def k0_dev40 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_241 : BitVec 32 := 9#32
  let v394 : BitVec 32 := Scalar.xori v2 c9_i32_241
  let c1_i32_246 : BitVec 32 := 1#32
  let v396 : BitVec 32 := Scalar.muli v394 c1_i32_246
  let v397 : BitVec 32 := Scalar.addi c0_i32_247 v396
  v397.toNat
def k0_dev41 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_251 : BitVec 32 := 10#32
  let v405 : BitVec 32 := Scalar.xori v2 c10_i32_251
  let c1_i32_256 : BitVec 32 := 1#32
  let v407 : BitVec 32 := Scalar.muli v405 c1_i32_256
  let v408 : BitVec 32 := Scalar.addi c0_i32_257 v407
  v408.toNat
def k0_dev42 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_261 : BitVec 32 := 11#32
  let v416 : BitVec 32 := Scalar.xori v2 c11_i32_261
  let c1_i32_266 : BitVec 32 := 1#32
  let v418 : BitVec 32 := Scalar.muli v416 c1_i32_266
  let v419 : BitVec 32 := Scalar.addi c0_i32_267 v418
  v419.toNat
def k0_dev43 (d0 : Dev nD) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_271 : BitVec 32 := 12#32
  let v427 : BitVec 32 := Scalar.xori v2 c12_i32_271
  let c1_i32_276 : BitVec 32 := 1#32
  let v429 : BitVec 32 := Scalar.muli v427 c1_i32_276
  let v430 : BitVec 32 := Scalar.addi c0_i32_277 v429
  v430.toNat
def k0_dev44 (d0 : Dev nD) : Nat :=
  let c0_i32_287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_281 : BitVec 32 := 13#32
  let v438 : BitVec 32 := Scalar.xori v2 c13_i32_281
  let c1_i32_286 : BitVec 32 := 1#32
  let v440 : BitVec 32 := Scalar.muli v438 c1_i32_286
  let v441 : BitVec 32 := Scalar.addi c0_i32_287 v440
  v441.toNat
def k0_dev45 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_291 : BitVec 32 := 14#32
  let v449 : BitVec 32 := Scalar.xori v2 c14_i32_291
  let c1_i32_296 : BitVec 32 := 1#32
  let v451 : BitVec 32 := Scalar.muli v449 c1_i32_296
  let v452 : BitVec 32 := Scalar.addi c0_i32_297 v451
  v452.toNat
def k0_dev46 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_301 : BitVec 32 := 15#32
  let v460 : BitVec 32 := Scalar.xori v2 c15_i32_301
  let c1_i32_306 : BitVec 32 := 1#32
  let v462 : BitVec 32 := Scalar.muli v460 c1_i32_306
  let v463 : BitVec 32 := Scalar.addi c0_i32_307 v462
  v463.toNat
def k0_off4 (d0 : Dev nD) : Fin 3 → Nat :=
  let c1_i32_311 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let v471 : BitVec 32 := Scalar.subi c1_i32_311 v19
  let v473 : Index := Scalar.indexCast v471
  let c0_313 : Index := 0#32
  let c0_314 : Index := 0#32
  ![v473.toNat, 0, 0]
def k0_off5 (d0 : Dev nD) : Fin 2 → Nat :=
  let c256_i32_312 : BitVec 32 := 256#32
  let c1_i32_311 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32_4 : BitVec 32 := 1#32
  let v18 : BitVec 32 := Scalar.subi v3 c1_i32_4
  let v19 : BitVec 32 := Scalar.select v17 v18 v3
  let v471 : BitVec 32 := Scalar.subi c1_i32_311 v19
  let v472 : BitVec 32 := Scalar.muli c256_i32_312 v471
  let v577 : Index := Scalar.indexCast v472
  let c0_343 : Index := 0#32
  ![v577.toNat, 0]
def k0_dev47 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_344 : BitVec 32 := 16#32
  let v581 : BitVec 32 := Scalar.xori v2 c16_i32_344
  let c1_i32_349 : BitVec 32 := 1#32
  let v583 : BitVec 32 := Scalar.muli v581 c1_i32_349
  let v584 : BitVec 32 := Scalar.addi c0_i32_350 v583
  v584.toNat
def k0_dev48 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_354 : BitVec 32 := 17#32
  let v592 : BitVec 32 := Scalar.xori v2 c17_i32_354
  let c1_i32_359 : BitVec 32 := 1#32
  let v594 : BitVec 32 := Scalar.muli v592 c1_i32_359
  let v595 : BitVec 32 := Scalar.addi c0_i32_360 v594
  v595.toNat
def k0_dev49 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_364 : BitVec 32 := 18#32
  let v603 : BitVec 32 := Scalar.xori v2 c18_i32_364
  let c1_i32_369 : BitVec 32 := 1#32
  let v605 : BitVec 32 := Scalar.muli v603 c1_i32_369
  let v606 : BitVec 32 := Scalar.addi c0_i32_370 v605
  v606.toNat
def k0_dev50 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_374 : BitVec 32 := 19#32
  let v614 : BitVec 32 := Scalar.xori v2 c19_i32_374
  let c1_i32_379 : BitVec 32 := 1#32
  let v616 : BitVec 32 := Scalar.muli v614 c1_i32_379
  let v617 : BitVec 32 := Scalar.addi c0_i32_380 v616
  v617.toNat
def k0_dev51 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_384 : BitVec 32 := 20#32
  let v625 : BitVec 32 := Scalar.xori v2 c20_i32_384
  let c1_i32_389 : BitVec 32 := 1#32
  let v627 : BitVec 32 := Scalar.muli v625 c1_i32_389
  let v628 : BitVec 32 := Scalar.addi c0_i32_390 v627
  v628.toNat
def k0_dev52 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_394 : BitVec 32 := 21#32
  let v636 : BitVec 32 := Scalar.xori v2 c21_i32_394
  let c1_i32_399 : BitVec 32 := 1#32
  let v638 : BitVec 32 := Scalar.muli v636 c1_i32_399
  let v639 : BitVec 32 := Scalar.addi c0_i32_400 v638
  v639.toNat
def k0_dev53 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_404 : BitVec 32 := 22#32
  let v647 : BitVec 32 := Scalar.xori v2 c22_i32_404
  let c1_i32_409 : BitVec 32 := 1#32
  let v649 : BitVec 32 := Scalar.muli v647 c1_i32_409
  let v650 : BitVec 32 := Scalar.addi c0_i32_410 v649
  v650.toNat
def k0_dev54 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_414 : BitVec 32 := 23#32
  let v658 : BitVec 32 := Scalar.xori v2 c23_i32_414
  let c1_i32_419 : BitVec 32 := 1#32
  let v660 : BitVec 32 := Scalar.muli v658 c1_i32_419
  let v661 : BitVec 32 := Scalar.addi c0_i32_420 v660
  v661.toNat
def k0_dev55 (d0 : Dev nD) : Nat :=
  let c0_i32_430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_424 : BitVec 32 := 24#32
  let v669 : BitVec 32 := Scalar.xori v2 c24_i32_424
  let c1_i32_429 : BitVec 32 := 1#32
  let v671 : BitVec 32 := Scalar.muli v669 c1_i32_429
  let v672 : BitVec 32 := Scalar.addi c0_i32_430 v671
  v672.toNat
def k0_dev56 (d0 : Dev nD) : Nat :=
  let c0_i32_440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_434 : BitVec 32 := 25#32
  let v680 : BitVec 32 := Scalar.xori v2 c25_i32_434
  let c1_i32_439 : BitVec 32 := 1#32
  let v682 : BitVec 32 := Scalar.muli v680 c1_i32_439
  let v683 : BitVec 32 := Scalar.addi c0_i32_440 v682
  v683.toNat
def k0_dev57 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_444 : BitVec 32 := 26#32
  let v691 : BitVec 32 := Scalar.xori v2 c26_i32_444
  let c1_i32_449 : BitVec 32 := 1#32
  let v693 : BitVec 32 := Scalar.muli v691 c1_i32_449
  let v694 : BitVec 32 := Scalar.addi c0_i32_450 v693
  v694.toNat
def k0_dev58 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_454 : BitVec 32 := 27#32
  let v702 : BitVec 32 := Scalar.xori v2 c27_i32_454
  let c1_i32_459 : BitVec 32 := 1#32
  let v704 : BitVec 32 := Scalar.muli v702 c1_i32_459
  let v705 : BitVec 32 := Scalar.addi c0_i32_460 v704
  v705.toNat
def k0_dev59 (d0 : Dev nD) : Nat :=
  let c0_i32_470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_464 : BitVec 32 := 28#32
  let v713 : BitVec 32 := Scalar.xori v2 c28_i32_464
  let c1_i32_469 : BitVec 32 := 1#32
  let v715 : BitVec 32 := Scalar.muli v713 c1_i32_469
  let v716 : BitVec 32 := Scalar.addi c0_i32_470 v715
  v716.toNat
def k0_dev60 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_474 : BitVec 32 := 29#32
  let v724 : BitVec 32 := Scalar.xori v2 c29_i32_474
  let c1_i32_479 : BitVec 32 := 1#32
  let v726 : BitVec 32 := Scalar.muli v724 c1_i32_479
  let v727 : BitVec 32 := Scalar.addi c0_i32_480 v726
  v727.toNat
def k0_dev61 (d0 : Dev nD) : Nat :=
  let c0_i32_490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_484 : BitVec 32 := 30#32
  let v735 : BitVec 32 := Scalar.xori v2 c30_i32_484
  let c1_i32_489 : BitVec 32 := 1#32
  let v737 : BitVec 32 := Scalar.muli v735 c1_i32_489
  let v738 : BitVec 32 := Scalar.addi c0_i32_490 v737
  v738.toNat
def k0_dev62 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_494 : BitVec 32 := 31#32
  let v746 : BitVec 32 := Scalar.xori v2 c31_i32_494
  let c1_i32_499 : BitVec 32 := 1#32
  let v748 : BitVec 32 := Scalar.muli v746 c1_i32_499
  let v749 : BitVec 32 := Scalar.addi c0_i32_500 v748
  v749.toNat
def k0_off6 (d0 : Dev nD) : Fin 2 → Nat :=
  let c16_i32_504 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v757 : BitVec 32 := Scalar.muli c16_i32_504 v2
  let v758 : Index := Scalar.indexCast v757
  let c0_505 : Index := 0#32
  ![v758.toNat, 0]
def k0_off7 (d0 : Dev nD) : Fin 2 → Nat :=
  let c16_i32_820 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1109 : BitVec 32 := Scalar.muli c16_i32_820 v2
  let c0_i32_826 : BitVec 32 := 0#32
  ![v1109.toNat, 0]
def k0_dev63 (d0 : Dev nD) : Nat :=
  let c0_i32_825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_821 : BitVec 32 := 1#32
  let v1110 : BitVec 32 := Scalar.xori v2 c1_i32_821
  let c1_i32_824 : BitVec 32 := 1#32
  let v1111 : BitVec 32 := Scalar.muli v1110 c1_i32_824
  let v1112 : BitVec 32 := Scalar.addi c0_i32_825 v1111
  v1112.toNat
def k0_dev64 (d0 : Dev nD) : Nat :=
  let c0_i32_832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_828 : BitVec 32 := 2#32
  let v1119 : BitVec 32 := Scalar.xori v2 c2_i32_828
  let c1_i32_831 : BitVec 32 := 1#32
  let v1120 : BitVec 32 := Scalar.muli v1119 c1_i32_831
  let v1121 : BitVec 32 := Scalar.addi c0_i32_832 v1120
  v1121.toNat
def k0_dev65 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_835 : BitVec 32 := 3#32
  let v1128 : BitVec 32 := Scalar.xori v2 c3_i32_835
  let c1_i32_838 : BitVec 32 := 1#32
  let v1129 : BitVec 32 := Scalar.muli v1128 c1_i32_838
  let v1130 : BitVec 32 := Scalar.addi c0_i32_839 v1129
  v1130.toNat
def k0_dev66 (d0 : Dev nD) : Nat :=
  let c0_i32_846 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_842 : BitVec 32 := 4#32
  let v1137 : BitVec 32 := Scalar.xori v2 c4_i32_842
  let c1_i32_845 : BitVec 32 := 1#32
  let v1138 : BitVec 32 := Scalar.muli v1137 c1_i32_845
  let v1139 : BitVec 32 := Scalar.addi c0_i32_846 v1138
  v1139.toNat
def k0_dev67 (d0 : Dev nD) : Nat :=
  let c0_i32_853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_849 : BitVec 32 := 5#32
  let v1146 : BitVec 32 := Scalar.xori v2 c5_i32_849
  let c1_i32_852 : BitVec 32 := 1#32
  let v1147 : BitVec 32 := Scalar.muli v1146 c1_i32_852
  let v1148 : BitVec 32 := Scalar.addi c0_i32_853 v1147
  v1148.toNat
def k0_dev68 (d0 : Dev nD) : Nat :=
  let c0_i32_860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_856 : BitVec 32 := 6#32
  let v1155 : BitVec 32 := Scalar.xori v2 c6_i32_856
  let c1_i32_859 : BitVec 32 := 1#32
  let v1156 : BitVec 32 := Scalar.muli v1155 c1_i32_859
  let v1157 : BitVec 32 := Scalar.addi c0_i32_860 v1156
  v1157.toNat
def k0_dev69 (d0 : Dev nD) : Nat :=
  let c0_i32_867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_863 : BitVec 32 := 7#32
  let v1164 : BitVec 32 := Scalar.xori v2 c7_i32_863
  let c1_i32_866 : BitVec 32 := 1#32
  let v1165 : BitVec 32 := Scalar.muli v1164 c1_i32_866
  let v1166 : BitVec 32 := Scalar.addi c0_i32_867 v1165
  v1166.toNat
def k0_dev70 (d0 : Dev nD) : Nat :=
  let c0_i32_874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_870 : BitVec 32 := 8#32
  let v1173 : BitVec 32 := Scalar.xori v2 c8_i32_870
  let c1_i32_873 : BitVec 32 := 1#32
  let v1174 : BitVec 32 := Scalar.muli v1173 c1_i32_873
  let v1175 : BitVec 32 := Scalar.addi c0_i32_874 v1174
  v1175.toNat
def k0_dev71 (d0 : Dev nD) : Nat :=
  let c0_i32_881 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_877 : BitVec 32 := 9#32
  let v1182 : BitVec 32 := Scalar.xori v2 c9_i32_877
  let c1_i32_880 : BitVec 32 := 1#32
  let v1183 : BitVec 32 := Scalar.muli v1182 c1_i32_880
  let v1184 : BitVec 32 := Scalar.addi c0_i32_881 v1183
  v1184.toNat
def k0_dev72 (d0 : Dev nD) : Nat :=
  let c0_i32_888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_884 : BitVec 32 := 10#32
  let v1191 : BitVec 32 := Scalar.xori v2 c10_i32_884
  let c1_i32_887 : BitVec 32 := 1#32
  let v1192 : BitVec 32 := Scalar.muli v1191 c1_i32_887
  let v1193 : BitVec 32 := Scalar.addi c0_i32_888 v1192
  v1193.toNat
def k0_dev73 (d0 : Dev nD) : Nat :=
  let c0_i32_895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_891 : BitVec 32 := 11#32
  let v1200 : BitVec 32 := Scalar.xori v2 c11_i32_891
  let c1_i32_894 : BitVec 32 := 1#32
  let v1201 : BitVec 32 := Scalar.muli v1200 c1_i32_894
  let v1202 : BitVec 32 := Scalar.addi c0_i32_895 v1201
  v1202.toNat
def k0_dev74 (d0 : Dev nD) : Nat :=
  let c0_i32_902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_898 : BitVec 32 := 12#32
  let v1209 : BitVec 32 := Scalar.xori v2 c12_i32_898
  let c1_i32_901 : BitVec 32 := 1#32
  let v1210 : BitVec 32 := Scalar.muli v1209 c1_i32_901
  let v1211 : BitVec 32 := Scalar.addi c0_i32_902 v1210
  v1211.toNat
def k0_dev75 (d0 : Dev nD) : Nat :=
  let c0_i32_909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_905 : BitVec 32 := 13#32
  let v1218 : BitVec 32 := Scalar.xori v2 c13_i32_905
  let c1_i32_908 : BitVec 32 := 1#32
  let v1219 : BitVec 32 := Scalar.muli v1218 c1_i32_908
  let v1220 : BitVec 32 := Scalar.addi c0_i32_909 v1219
  v1220.toNat
def k0_dev76 (d0 : Dev nD) : Nat :=
  let c0_i32_916 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_912 : BitVec 32 := 14#32
  let v1227 : BitVec 32 := Scalar.xori v2 c14_i32_912
  let c1_i32_915 : BitVec 32 := 1#32
  let v1228 : BitVec 32 := Scalar.muli v1227 c1_i32_915
  let v1229 : BitVec 32 := Scalar.addi c0_i32_916 v1228
  v1229.toNat
def k0_dev77 (d0 : Dev nD) : Nat :=
  let c0_i32_923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_919 : BitVec 32 := 15#32
  let v1236 : BitVec 32 := Scalar.xori v2 c15_i32_919
  let c1_i32_922 : BitVec 32 := 1#32
  let v1237 : BitVec 32 := Scalar.muli v1236 c1_i32_922
  let v1238 : BitVec 32 := Scalar.addi c0_i32_923 v1237
  v1238.toNat
def k0_dev78 (d0 : Dev nD) : Nat :=
  let c0_i32_930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_926 : BitVec 32 := 16#32
  let v1245 : BitVec 32 := Scalar.xori v2 c16_i32_926
  let c1_i32_929 : BitVec 32 := 1#32
  let v1246 : BitVec 32 := Scalar.muli v1245 c1_i32_929
  let v1247 : BitVec 32 := Scalar.addi c0_i32_930 v1246
  v1247.toNat
def k0_dev79 (d0 : Dev nD) : Nat :=
  let c0_i32_937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_933 : BitVec 32 := 17#32
  let v1254 : BitVec 32 := Scalar.xori v2 c17_i32_933
  let c1_i32_936 : BitVec 32 := 1#32
  let v1255 : BitVec 32 := Scalar.muli v1254 c1_i32_936
  let v1256 : BitVec 32 := Scalar.addi c0_i32_937 v1255
  v1256.toNat
def k0_dev80 (d0 : Dev nD) : Nat :=
  let c0_i32_944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_940 : BitVec 32 := 18#32
  let v1263 : BitVec 32 := Scalar.xori v2 c18_i32_940
  let c1_i32_943 : BitVec 32 := 1#32
  let v1264 : BitVec 32 := Scalar.muli v1263 c1_i32_943
  let v1265 : BitVec 32 := Scalar.addi c0_i32_944 v1264
  v1265.toNat
def k0_dev81 (d0 : Dev nD) : Nat :=
  let c0_i32_951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_947 : BitVec 32 := 19#32
  let v1272 : BitVec 32 := Scalar.xori v2 c19_i32_947
  let c1_i32_950 : BitVec 32 := 1#32
  let v1273 : BitVec 32 := Scalar.muli v1272 c1_i32_950
  let v1274 : BitVec 32 := Scalar.addi c0_i32_951 v1273
  v1274.toNat
def k0_dev82 (d0 : Dev nD) : Nat :=
  let c0_i32_958 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_954 : BitVec 32 := 20#32
  let v1281 : BitVec 32 := Scalar.xori v2 c20_i32_954
  let c1_i32_957 : BitVec 32 := 1#32
  let v1282 : BitVec 32 := Scalar.muli v1281 c1_i32_957
  let v1283 : BitVec 32 := Scalar.addi c0_i32_958 v1282
  v1283.toNat
def k0_dev83 (d0 : Dev nD) : Nat :=
  let c0_i32_965 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_961 : BitVec 32 := 21#32
  let v1290 : BitVec 32 := Scalar.xori v2 c21_i32_961
  let c1_i32_964 : BitVec 32 := 1#32
  let v1291 : BitVec 32 := Scalar.muli v1290 c1_i32_964
  let v1292 : BitVec 32 := Scalar.addi c0_i32_965 v1291
  v1292.toNat
def k0_dev84 (d0 : Dev nD) : Nat :=
  let c0_i32_972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_968 : BitVec 32 := 22#32
  let v1299 : BitVec 32 := Scalar.xori v2 c22_i32_968
  let c1_i32_971 : BitVec 32 := 1#32
  let v1300 : BitVec 32 := Scalar.muli v1299 c1_i32_971
  let v1301 : BitVec 32 := Scalar.addi c0_i32_972 v1300
  v1301.toNat
def k0_dev85 (d0 : Dev nD) : Nat :=
  let c0_i32_979 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_975 : BitVec 32 := 23#32
  let v1308 : BitVec 32 := Scalar.xori v2 c23_i32_975
  let c1_i32_978 : BitVec 32 := 1#32
  let v1309 : BitVec 32 := Scalar.muli v1308 c1_i32_978
  let v1310 : BitVec 32 := Scalar.addi c0_i32_979 v1309
  v1310.toNat
def k0_dev86 (d0 : Dev nD) : Nat :=
  let c0_i32_986 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_982 : BitVec 32 := 24#32
  let v1317 : BitVec 32 := Scalar.xori v2 c24_i32_982
  let c1_i32_985 : BitVec 32 := 1#32
  let v1318 : BitVec 32 := Scalar.muli v1317 c1_i32_985
  let v1319 : BitVec 32 := Scalar.addi c0_i32_986 v1318
  v1319.toNat
def k0_dev87 (d0 : Dev nD) : Nat :=
  let c0_i32_993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_989 : BitVec 32 := 25#32
  let v1326 : BitVec 32 := Scalar.xori v2 c25_i32_989
  let c1_i32_992 : BitVec 32 := 1#32
  let v1327 : BitVec 32 := Scalar.muli v1326 c1_i32_992
  let v1328 : BitVec 32 := Scalar.addi c0_i32_993 v1327
  v1328.toNat
def k0_dev88 (d0 : Dev nD) : Nat :=
  let c0_i32_1000 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_996 : BitVec 32 := 26#32
  let v1335 : BitVec 32 := Scalar.xori v2 c26_i32_996
  let c1_i32_999 : BitVec 32 := 1#32
  let v1336 : BitVec 32 := Scalar.muli v1335 c1_i32_999
  let v1337 : BitVec 32 := Scalar.addi c0_i32_1000 v1336
  v1337.toNat
def k0_dev89 (d0 : Dev nD) : Nat :=
  let c0_i32_1007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1003 : BitVec 32 := 27#32
  let v1344 : BitVec 32 := Scalar.xori v2 c27_i32_1003
  let c1_i32_1006 : BitVec 32 := 1#32
  let v1345 : BitVec 32 := Scalar.muli v1344 c1_i32_1006
  let v1346 : BitVec 32 := Scalar.addi c0_i32_1007 v1345
  v1346.toNat
def k0_dev90 (d0 : Dev nD) : Nat :=
  let c0_i32_1014 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1010 : BitVec 32 := 28#32
  let v1353 : BitVec 32 := Scalar.xori v2 c28_i32_1010
  let c1_i32_1013 : BitVec 32 := 1#32
  let v1354 : BitVec 32 := Scalar.muli v1353 c1_i32_1013
  let v1355 : BitVec 32 := Scalar.addi c0_i32_1014 v1354
  v1355.toNat
def k0_dev91 (d0 : Dev nD) : Nat :=
  let c0_i32_1021 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1017 : BitVec 32 := 29#32
  let v1362 : BitVec 32 := Scalar.xori v2 c29_i32_1017
  let c1_i32_1020 : BitVec 32 := 1#32
  let v1363 : BitVec 32 := Scalar.muli v1362 c1_i32_1020
  let v1364 : BitVec 32 := Scalar.addi c0_i32_1021 v1363
  v1364.toNat
def k0_dev92 (d0 : Dev nD) : Nat :=
  let c0_i32_1028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1024 : BitVec 32 := 30#32
  let v1371 : BitVec 32 := Scalar.xori v2 c30_i32_1024
  let c1_i32_1027 : BitVec 32 := 1#32
  let v1372 : BitVec 32 := Scalar.muli v1371 c1_i32_1027
  let v1373 : BitVec 32 := Scalar.addi c0_i32_1028 v1372
  v1373.toNat
def k0_dev93 (d0 : Dev nD) : Nat :=
  let c0_i32_1035 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1031 : BitVec 32 := 31#32
  let v1380 : BitVec 32 := Scalar.xori v2 c31_i32_1031
  let c1_i32_1034 : BitVec 32 := 1#32
  let v1381 : BitVec 32 := Scalar.muli v1380 c1_i32_1034
  let v1382 : BitVec 32 := Scalar.addi c0_i32_1035 v1381
  v1382.toNat
abbrev stage0_0 : Fin 1 → Memref sig .tc .vmem S2x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x8192 : Shape := ⟨2, ![768, 8192]⟩
abbrev S8192x768 : Shape := ⟨2, ![8192, 768]⟩
abbrev S32 : Shape := ⟨1, ![32]⟩
abbrev S_ : Shape := ⟨0, ![]⟩
abbrev S256 : Shape := ⟨1, ![256]⟩
abbrev S256x1 : Shape := ⟨2, ![256, 1]⟩
abbrev S1x32 : Shape := ⟨2, ![1, 32]⟩
abbrev S256x32 : Shape := ⟨2, ![256, 32]⟩
abbrev S256x32x2 : Shape := ⟨3, ![256, 32, 2]⟩
abbrev S256x64 : Shape := ⟨2, ![256, 64]⟩
abbrev S2x256x8192 : Shape := ⟨3, ![2, 256, 8192]⟩
abbrev S2x256x128x64 : Shape := ⟨4, ![2, 256, 128, 64]⟩
abbrev S2x256x128x32x2 : Shape := ⟨5, ![2, 256, 128, 32, 2]⟩
abbrev S2x256x128x32x1 : Shape := ⟨5, ![2, 256, 128, 32, 1]⟩
abbrev S2x256x128x32 : Shape := ⟨4, ![2, 256, 128, 32]⟩
abbrev S1x256x1x64 : Shape := ⟨4, ![1, 256, 1, 64]⟩
abbrev S2x128x256x256 : Shape := ⟨4, ![2, 128, 256, 256]⟩
abbrev S2x128x256 : Shape := ⟨3, ![2, 128, 256]⟩
abbrev S2x128x256x1 : Shape := ⟨4, ![2, 128, 256, 1]⟩
abbrev S2x128x64x256 : Shape := ⟨4, ![2, 128, 64, 256]⟩
abbrev S512x768 : Shape := ⟨2, ![512, 768]⟩

abbrev nBuf : Space → Nat
  | .hbm => 101
  | .vmem => 0
  | .smem => 0
  | _ => 0

abbrev bufTy : (tb : Table) → Fin (tcTables nBuf tb) → BufTy
  | .hbm, ⟨0, _⟩ => ⟨S2x256x768, .bf16⟩
  | .hbm, ⟨1, _⟩ => ⟨S768x8192, .bf16⟩
  | .hbm, ⟨2, _⟩ => ⟨S768x8192, .bf16⟩
  | .hbm, ⟨3, _⟩ => ⟨S768x8192, .bf16⟩
  | .hbm, ⟨4, _⟩ => ⟨S8192x768, .bf16⟩
  | .hbm, ⟨5, _⟩ => ⟨S2x256x768, .f32⟩
  | .hbm, ⟨6, _⟩ => ⟨S768x8192, .f32⟩
  | .hbm, ⟨7, _⟩ => ⟨S768x8192, .f32⟩
  | .hbm, ⟨8, _⟩ => ⟨S768x8192, .f32⟩
  | .hbm, ⟨9, _⟩ => ⟨S8192x768, .f32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S256, .i32⟩
  | .hbm, ⟨28, _⟩ => ⟨S256x1, .i32⟩
  | .hbm, ⟨29, _⟩ => ⟨S1x32, .f32⟩
  | .hbm, ⟨30, _⟩ => ⟨S256x1, .f32⟩
  | .hbm, ⟨31, _⟩ => ⟨S256x32, .f32⟩
  | .hbm, ⟨32, _⟩ => ⟨S256x32, .f32⟩
  | .hbm, ⟨33, _⟩ => ⟨S256x32, .f32⟩
  | .hbm, ⟨34, _⟩ => ⟨S256x32, .f32⟩
  | .hbm, ⟨35, _⟩ => ⟨S256x32x2, .f32⟩
  | .hbm, ⟨36, _⟩ => ⟨S256x64, .f32⟩
  | .hbm, ⟨37, _⟩ => ⟨S256x32, .f32⟩
  | .hbm, ⟨38, _⟩ => ⟨S256x32x2, .f32⟩
  | .hbm, ⟨39, _⟩ => ⟨S256x64, .f32⟩
  | .hbm, ⟨40, _⟩ => ⟨S2x256x8192, .f32⟩
  | .hbm, ⟨41, _⟩ => ⟨S2x256x128x64, .f32⟩
  | .hbm, ⟨42, _⟩ => ⟨S2x256x128x32x2, .f32⟩
  | .hbm, ⟨43, _⟩ => ⟨S2x256x128x32x1, .f32⟩
  | .hbm, ⟨44, _⟩ => ⟨S2x256x128x32, .f32⟩
  | .hbm, ⟨45, _⟩ => ⟨S2x256x128x32, .f32⟩
  | .hbm, ⟨46, _⟩ => ⟨S2x256x128x32x1, .f32⟩
  | .hbm, ⟨47, _⟩ => ⟨S2x256x128x32, .f32⟩
  | .hbm, ⟨48, _⟩ => ⟨S2x256x128x32x1, .f32⟩
  | .hbm, ⟨49, _⟩ => ⟨S2x256x128x32x1, .f32⟩
  | .hbm, ⟨50, _⟩ => ⟨S2x256x128x32x2, .f32⟩
  | .hbm, ⟨51, _⟩ => ⟨S2x256x128x64, .f32⟩
  | .hbm, ⟨52, _⟩ => ⟨S1x256x1x64, .f32⟩
  | .hbm, ⟨53, _⟩ => ⟨S2x256x128x64, .f32⟩
  | .hbm, ⟨54, _⟩ => ⟨S2x256x128x64, .f32⟩
  | .hbm, ⟨55, _⟩ => ⟨S1x256x1x64, .f32⟩
  | .hbm, ⟨56, _⟩ => ⟨S2x256x128x64, .f32⟩
  | .hbm, ⟨57, _⟩ => ⟨S2x256x128x64, .f32⟩
  | .hbm, ⟨58, _⟩ => ⟨S2x256x128x64, .f32⟩
  | .hbm, ⟨59, _⟩ => ⟨S2x256x8192, .f32⟩
  | .hbm, ⟨60, _⟩ => ⟨S2x256x128x64, .f32⟩
  | .hbm, ⟨61, _⟩ => ⟨S2x256x128x32x2, .f32⟩
  | .hbm, ⟨62, _⟩ => ⟨S2x256x128x32x1, .f32⟩
  | .hbm, ⟨63, _⟩ => ⟨S2x256x128x32, .f32⟩
  | .hbm, ⟨64, _⟩ => ⟨S2x256x128x32, .f32⟩
  | .hbm, ⟨65, _⟩ => ⟨S2x256x128x32x1, .f32⟩
  | .hbm, ⟨66, _⟩ => ⟨S2x256x128x32, .f32⟩
  | .hbm, ⟨67, _⟩ => ⟨S2x256x128x32x1, .f32⟩
  | .hbm, ⟨68, _⟩ => ⟨S2x256x128x32x1, .f32⟩
  | .hbm, ⟨69, _⟩ => ⟨S2x256x128x32x2, .f32⟩
  | .hbm, ⟨70, _⟩ => ⟨S2x256x128x64, .f32⟩
  | .hbm, ⟨71, _⟩ => ⟨S1x256x1x64, .f32⟩
  | .hbm, ⟨72, _⟩ => ⟨S2x256x128x64, .f32⟩
  | .hbm, ⟨73, _⟩ => ⟨S2x256x128x64, .f32⟩
  | .hbm, ⟨74, _⟩ => ⟨S1x256x1x64, .f32⟩
  | .hbm, ⟨75, _⟩ => ⟨S2x256x128x64, .f32⟩
  | .hbm, ⟨76, _⟩ => ⟨S2x256x128x64, .f32⟩
  | .hbm, ⟨77, _⟩ => ⟨S2x256x128x64, .f32⟩
  | .hbm, ⟨78, _⟩ => ⟨S2x256x8192, .f32⟩
  | .hbm, ⟨79, _⟩ => ⟨S2x256x128x64, .f32⟩
  | .hbm, ⟨80, _⟩ => ⟨S2x128x256x256, .f32⟩
  | .hbm, ⟨81, _⟩ => ⟨S_, .f32⟩
  | .hbm, ⟨82, _⟩ => ⟨S2x128x256x256, .f32⟩
  | .hbm, ⟨83, _⟩ => ⟨S2x128x256x256, .f32⟩
  | .hbm, ⟨84, _⟩ => ⟨S_, .f32⟩
  | .hbm, ⟨85, _⟩ => ⟨S2x128x256, .f32⟩
  | .hbm, ⟨86, _⟩ => ⟨S2x128x256x1, .f32⟩
  | .hbm, ⟨87, _⟩ => ⟨S2x128x256x256, .f32⟩
  | .hbm, ⟨88, _⟩ => ⟨S2x128x256x256, .f32⟩
  | .hbm, ⟨89, _⟩ => ⟨S2x128x256x256, .f32⟩
  | .hbm, ⟨90, _⟩ => ⟨S_, .f32⟩
  | .hbm, ⟨91, _⟩ => ⟨S2x128x256, .f32⟩
  | .hbm, ⟨92, _⟩ => ⟨S2x128x256x1, .f32⟩
  | .hbm, ⟨93, _⟩ => ⟨S2x128x256x256, .f32⟩
  | .hbm, ⟨94, _⟩ => ⟨S2x128x256x256, .f32⟩
  | .hbm, ⟨95, _⟩ => ⟨S2x128x64x256, .f32⟩
  | .hbm, ⟨96, _⟩ => ⟨S2x256x128x64, .f32⟩
  | .hbm, ⟨97, _⟩ => ⟨S2x256x8192, .f32⟩
  | .hbm, ⟨98, _⟩ => ⟨S2x256x768, .f32⟩
  | .hbm, ⟨99, _⟩ => ⟨S512x768, .f32⟩
  | .hbm, ⟨100, _⟩ => ⟨S512x768, .bf16⟩
  | _, _ => ⟨S2x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_3 : Ref sig .tc := ⟨.hbm, 81, rfl⟩
abbrev main_v71 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_5 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩

abbrev nD : Nat := 1
abbrev τ : Topo := Topo.v7x

variable {F : FTy → Type} [FloatOps F]
-- ==== Proof.Program.lean ====
/-
The kernel's body read as a short program.

One device of the 32 does the same thing to each of its 31 peers, and peer number `k` of device `c` is the device whose number is `c xor k`.
The printed body lists those steps one by one; here each phase is one recursion over a list of peer numbers, and
`body_eq` says that the printed body is this program. The arithmetic between the memory operations — the attention of one
half of the batch — is gathered in `halfOut`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions

@[expose] public section

noncomputable section

namespace Cert.RopeRun

open Cert.KernelIdeal Cert.KernelIdeal.Gen
open Idealize.ShloMosaic Idealize.ShloMosaic.TcCoe
open Idealize.SL.Sem

variable {F : FTy → Type} [FloatOps F]

/-! ## Peers -/

/-- The number `k` as the program's 32-bit word. -/
abbrev wd (k : Fin 32) : BitVec 32 := BitVec.ofNat 32 k.val

/-- The number of peer `k` of device `c`, computed on words as the program does. -/
def peerW (c : Dev nD) (k : Fin 32) : Nat :=
  (Scalar.addi 0#32 (Scalar.muli (Scalar.xori (Scalar.remsi (Scalar.divsi (Dev.word c) 1#32) 32#32) (wd k)) 1#32)).toNat

theorem peerW_lt : ∀ (c : Dev nD) (k : Fin 32), peerW c k < nD := by decide +kernel

/-- Peer `k` of device `c`. -/
def peer (c : Dev nD) (k : Fin 32) : Dev nD := ⟨peerW c k, peerW_lt c k⟩

/-- The peer numbers in the order the kernel visits them; it sends the first fifteen chunks after one half of the batch, the others after both. -/
def ksA : List (Fin 32) := [1, 2, 3, 4, 5, 6, 7, 8, 9, 10, 11, 12, 13, 14, 15]
def ksB : List (Fin 32) := [16, 17, 18, 19, 20, 21, 22, 23, 24, 25, 26, 27, 28, 29, 30, 31]
def ks : List (Fin 32) := ksA ++ ksB

/-! ## Buffers, their pieces and the semaphores -/

abbrev xM : Memref sig .tc .vmem S2x256x768 .bf16 := Memref.whole cc0_stg0_0
abbrev wqM : Memref sig .tc .vmem S768x256 .bf16 := Memref.whole cc0_stg1_0
abbrev wkM : Memref sig .tc .vmem S768x256 .bf16 := Memref.whole cc0_stg2_0
abbrev wvM : Memref sig .tc .vmem S768x256 .bf16 := Memref.whole cc0_stg3_0
abbrev woM : Memref sig .tc .vmem S256x768 .bf16 := Memref.whole cc0_stg4_0
abbrev oM : Memref sig .tc .vmem S512x768 .bf16 := Memref.whole cc0_stg5_0
abbrev pM : Memref sig .tc .vmem S512x768 .bf16 := Memref.whole cc0_scratch0
abbrev rM : Memref sig .tc .vmem S32x16x768 .bf16 := Memref.whole cc0_scratch1
abbrev dM : Memref sig .tc .vmem S16x768 .bf16 := Memref.whole cc0_scratch2

theorem off3_inb : ∀ (c : Dev nD) (k : Fin 32), ∀ a, (k0_off3 c (wd k)) a + S16x768.size a ≤ S512x768.size a := by decide +kernel
theorem off3_words : ∀ (c : Dev nD) (k : Fin 32),
    (Rect.unit (s := S512x768) (k0_off3 c (wd k)) S16x768.size (off3_inb c k)).WholeWords (EltTy.packing .bf16) := by decide +kernel
theorem slot_inb : ∀ (k : Fin 32), ∀ a, (![k.val, 0, 0] : Fin 3 → Nat) a + S1x16x768.size a ≤ S32x16x768.size a := by decide +kernel
theorem slot_words : ∀ (k : Fin 32),
    (Rect.unit (s := S32x16x768) ![k.val, 0, 0] S1x16x768.size (slot_inb k)).WholeWords (EltTy.packing .bf16) := by decide +kernel
theorem sem_inb : ∀ (k : Fin 32), ∀ a, (![k.val] : Fin 1 → Nat) a + S1.size a ≤ S32.size a := by decide

/-- The sixteen rows of the partial product meant for peer `k`. -/
abbrev chunk (c : Dev nD) (k : Fin 32) : Memref sig .tc .vmem S16x768 .bf16 :=
  pM.slice (Rect.unit (s := S512x768) (k0_off3 c (wd k)) S16x768.size (off3_inb c k)) (fun _ => rfl)
/-- The place where peer `k`'s rows land, as the loads read it. -/
abbrev slotR (k : Fin 32) : Rect S32x16x768 := Rect.unit (s := S32x16x768) ![k.val, 0, 0] S1x16x768.size (slot_inb k)
/-- The same place as the transfers address it. -/
abbrev slot (k : Fin 32) : Memref sig .tc .vmem S16x768 .bf16 :=
  (rM.slice (slotR k) (fun _ => rfl)).squeeze S16x768 squeezes_S1x16x768_S16x768
/-- The sixteen rows of the result that device `c` reduces. -/
abbrev outRows (c : Dev nD) : Memref sig .tc .vmem S16x768 .bf16 :=
  oM.slice (Rect.unit (s := S512x768) (k0_off7 c) S16x768.size (k0_off7_inb c)) (fun _ => rfl)

/-- Semaphore `k` of one of the four arrays. -/
abbrev semOf (a : DmaSems sig S32) (k : Fin 32) : DmaSem sig :=
  ((a.slice (Rect.unit (s := S32) ![k.val] S1.size (sem_inb k))).squeeze S_ squeezes_S1_S_).sem
abbrev send1 (k : Fin 32) : DmaSem sig := semOf cc0_scratch3 k
abbrev recv1 (k : Fin 32) : DmaSem sig := semOf cc0_scratch4 k
abbrev send2 (k : Fin 32) : DmaSem sig := semOf cc0_scratch5 k
abbrev recv2 (k : Fin 32) : DmaSem sig := semOf cc0_scratch6 k
/-- The barrier semaphore. -/
abbrev barS : Sem sig := (SemArray.scalar (sig.barrier 0 rfl) : Sems sig S_).sem

theorem chunk_wx (c : Dev nD) (k : Fin 32) : (chunk c k).view.WordExact :=
  (Memref.isWhole_whole cc0_scratch0).wordExact_slice rfl _ (off3_words c k)
theorem slot_wx (k : Fin 32) : (slot k).view.WordExact :=
  ((Memref.isWhole_whole cc0_scratch1).wordExact_slice rfl _ (slot_words k)).reshape _ _
theorem outRows_wx (c : Dev nD) : (outRows c).view.WordExact :=
  (Memref.isWhole_whole cc0_stg5_0).wordExact_slice rfl _ (k0_off7_wordsbf16 c)
theorem red_wx : (dM).view.WordExact := (Memref.isWhole_whole cc0_scratch2).wordExact

/-! ## The attention of one half of the batch -/

/-- The angle of the rotation: the row times `10000 ^ -(2 * ((col % 64) / 2) / 64)`. -/
def angle : FVec F S256x256 .f32 := k0_pay8 k0_pay5 k0_pay6 k0_pay7
/-- Which columns are even. -/
def even : IVec S256x256 1 := k0_pay11 (iota .tc S256x256 32 [1] iota_S256x256_d1_w32)

/-- The rotation of a projection: each pair of columns turned by its angle. -/
def rope (t : FVec F S256x256 .f32) : FVec F S256x256 .bf16 :=
  let z : FVec F S256x1 .f32 := broadcast S256x1 (Scalar.ofBits .f32 0x00000000#32)
  let nxt : FVec F S256x256 .f32 := concatenate S256x256 1
    [⟨S256x255, extractStridedSlice S256x255 ![0, 1] t slices_S256x256_o0_1_S256x255⟩, ⟨S256x1, z⟩] concatenates_S256x255_S256x1_S256x256_d1
  let prv : FVec F S256x256 .f32 := concatenate S256x256 1
    [⟨S256x1, z⟩, ⟨S256x255, extractStridedSlice S256x255 ![0, 0] t slices_S256x256_o0_0_S256x255⟩] concatenates_S256x1_S256x255_S256x256_d1
  let r : FVec F S256x256 .f32 := select even (subf (broadcast S256x256 (Scalar.ofBits .f32 0x00000000#32)) nxt) prv
  truncf .bf16 (addf (mulf t (cos angle)) (mulf r (sin angle))) bitsLt_bf16_f32

/-- The weights of one head: the scores, scaled, made a distribution along the keys. -/
def weights (q k : FVec F S256x64 .bf16) : FVec F S256x256 .bf16 :=
  let s : FVec F S256x256 .f32 := mulf
    (matmul dot_S256x64_S256x64_S256x256_1_1_0_0_n_n none q k (constant S256x256 .f32 0x00000000#32))
    (broadcast S256x256 (Scalar.ofBits .f32 0x3E000000#32))
  let mx : FVec F S256 .f32 := multiReduction .maximumf [1] S256 s 0xFF800000#32 reduces_S256x256_S256 (.inl rfl) rfl
  let e : FVec F S256x256 .f32 := exp (subf s (broadcastTo S256x256 (shapeCast S256x1 mx shapeCasts_S256_S256x1) broadcasts_S256x1_S256x256))
  let z : FVec F S256 .f32 := multiReduction .add [1] S256 e 0x00000000#32 reduces_S256x256_S256 (.inl rfl) rfl
  truncf .bf16 (divf e (broadcastTo S256x256 (shapeCast S256x1 z shapeCasts_S256_S256x1) broadcasts_S256x1_S256x256)) bitsLt_bf16_f32

/-- One head: the columns from `o` on of the three projections. -/
def head (o : Nat) (ho : S256x256.Slices (![0, o] : Fin 2 → Nat) S256x64) (q k v : FVec F S256x256 .bf16) : FVec F S256x64 .f32 :=
  matmul dot_S256x256_S256x64_S256x64_1_0_0_1_n_n none
    (weights (extractStridedSlice S256x64 ![0, o] q ho) (extractStridedSlice S256x64 ![0, o] k ho))
    (extractStridedSlice S256x64 ![0, o] v ho) (constant S256x64 .f32 0x00000000#32)

/-- A projection of the rows. -/
def proj (x : FVec F S256x768 .bf16) (w : FVec F S768x256 .bf16) : FVec F S256x256 .f32 :=
  matmul dot_S256x768_S768x256_S256x256_1_0_0_1_n_n none x (shapeCast S768x256 w shapeCasts_S768x256_S768x256) (constant S256x256 .f32 0x00000000#32)

/-- What a device computes of one half of the batch. -/
def halfOut (x : FVec F S1x256x768 .bf16) (wq wk wv : FVec F S768x256 .bf16) (wo : FVec F S256x768 .bf16) : FVec F S256x768 .bf16 :=
  let x' : FVec F S256x768 .bf16 := shapeCast S256x768 (shapeCast S1x256x768 x shapeCasts_S1x256x768_S1x256x768) shapeCasts_S1x256x768_S256x768
  let q := rope (proj x' wq)
  let k := rope (proj x' wk)
  let v : FVec F S256x256 .bf16 := truncf .bf16 (proj x' wv) bitsLt_bf16_f32
  let hs : FVec F S256x256 .f32 := concatenate S256x256 1
    [⟨S256x64, head 0 slices_S256x256_o0_0_S256x64 q k v⟩, ⟨S256x64, head 64 slices_S256x256_o0_64_S256x64 q k v⟩,
     ⟨S256x64, head 128 slices_S256x256_o0_128_S256x64 q k v⟩, ⟨S256x64, head 192 slices_S256x256_o0_192_S256x64 q k v⟩]
    concatenates_S256x64_S256x64_S256x64_S256x64_S256x256_d1
  shapeCast S256x768 (truncf .bf16 (matmul dot_S256x256_S256x768_S256x768_1_0_0_1_n_n none (truncf .bf16 hs bitsLt_bf16_f32)
    (shapeCast S256x768 wo shapeCasts_S256x768_S256x768) (constant S256x768 .f32 0x00000000#32)) bitsLt_bf16_f32) shapeCasts_S256x768_S256x768

/-- A landed chunk added to the running sum. -/
def accStep (acc : FVec F S16x768 .f32) (v : FVec F S1x16x768 .bf16) : FVec F S16x768 .f32 :=
  addf acc (extf .f32 (shapeCast S16x768 v shapeCasts_S1x16x768_S16x768) bitsLt_bf16_f32)

/-! ## The phases -/

/-- Programs of one TensorCore. -/
abbrev TcProg (F : FTy → Type) [FloatOps F] : Type 1 := Prog (TpuEff nD τ sig (Elt F) Λ₀ .tc) PUnit.{1}

/-- One unit to each listed peer's barrier semaphore. -/
def signals (c : Dev nD) : List (Fin 32) → TcProg F → TcProg F
  | [], K => K
  | k :: l, K => .op (.semSignal ((peer c k, .tc) : Thread nD τ) barS ((1 : ℕ) : ℤ)) fun _ => signals c l K

/-- To each listed peer, its sixteen rows of the partial product. -/
def sends1 (c : Dev nD) : List (Fin 32) → TcProg F → TcProg F
  | [], K => K
  | k :: l, K => .op (.enqueueDma (chunk c k) (.remote (Dev.tc (peer c k)) (slot k) (.dma (send1 k))) (.dma (recv1 k))
      (chunk_wx c k) (slot_wx k) ⟨⟨rfl, Or.inl rfl⟩, trivial⟩) fun _ => sends1 c l K

/-- From each listed peer its rows: await them, load them, add them. -/
def recvs1 (c : Dev nD) : List (Fin 32) → FVec F S16x768 .f32 → (FVec F S16x768 .f32 → TcProg F) → TcProg F
  | [], acc, K => K acc
  | k :: l, acc, K => .op (.waitDma2 (recv1 k) (chunk c k) (slot k) (chunk_wx c k) (slot_wx k)) fun _ =>
      .op (.load rM (slotR k).toLoadRect (View.loadsAt_vmem h_S1x16x768)) fun (v : Vec F S1x16x768 .bf16) => recvs1 c l (accStep acc v) K

/-- To each listed peer, the reduced rows. -/
def sends2 (c : Dev nD) : List (Fin 32) → TcProg F → TcProg F
  | [], K => K
  | k :: l, K => .op (.enqueueDma dM (.remote (Dev.tc (peer c k)) (outRows c) (.dma (send2 k))) (.dma (recv2 k))
      red_wx (outRows_wx c) ⟨⟨rfl, Or.inl rfl⟩, trivial⟩) fun _ => sends2 c l K

/-- Await each listed peer's reduced rows. -/
def recvs2 (c : Dev nD) : List (Fin 32) → TcProg F → TcProg F
  | [], K => K
  | k :: l, K => .op (.waitDma2 (recv2 k) dM (outRows c) red_wx (outRows_wx c)) fun _ => recvs2 c l K

/-- Await that the first phase's rows have left. -/
def drains1 (c : Dev nD) : List (Fin 32) → TcProg F → TcProg F
  | [], K => K
  | k :: l, K => .op (.waitDma2 (send1 k) (slot k) (chunk c k) (slot_wx k) (chunk_wx c k)) fun _ => drains1 c l K

/-- Await that the reduced rows have left. -/
def drains2 (c : Dev nD) : List (Fin 32) → TcProg F → TcProg F
  | [], K => K
  | k :: l, K => .op (.waitDma2 (send2 k) (outRows c) dM (outRows_wx c) red_wx) fun _ => drains2 c l K

/-! ## The whole body -/

abbrev xRect (off : Fin 3 → Nat) (h : ∀ a, off a + S1x256x768.size a ≤ S2x256x768.size a) : Rect S2x256x768 := Rect.unit off S1x256x768.size h
abbrev wRect : Rect S768x256 := Rect.unit (s := S768x256) ![0, 0] S768x256.size inb_S768x256_S768x256_0_0
abbrev woRect : Rect S256x768 := Rect.unit (s := S256x768) ![0, 0] S256x768.size inb_S256x768_S256x768_0_0
abbrev half0 (c : Dev nD) : Rect S512x768 := Rect.unit (s := S512x768) (k0_off2 c) S256x768.size (k0_off2_inb c)
abbrev half1 (c : Dev nD) : Rect S512x768 := Rect.unit (s := S512x768) (k0_off5 c) S256x768.size (k0_off5_inb c)
abbrev ownR (c : Dev nD) : Rect S512x768 := Rect.unit (s := S512x768) (k0_off6 c) S16x768.size (k0_off6_inb c)
abbrev redR : Rect S16x768 := Rect.unit (s := S16x768) ![0, 0] S16x768.size inb_S16x768_S16x768_0_0

/-- After the sum: the result's own rows and the buffer they are sent from, then the all-gather. -/
def tailProg (c : Dev nD) (acc : FVec F S16x768 .f32) : TcProg F :=
  .op (.load oM (ownR c).toLoadRect (View.loadsAt_vmem h_S16x768)) fun _ =>
  .op (.store oM (ownR c) (truncf .bf16 acc bitsLt_bf16_f32) Finset.univ
    (View.stores_vmem h_S16x768 ((Memref.isWhole_whole cc0_stg5_0).storeExact_slice rfl _ (k0_off6_packedbf16 c)) (fun _ => rfl)) (.inl rfl)) fun _ =>
  .op (.load dM redR.toLoadRect (View.loadsAt_vmem h_S16x768)) fun _ =>
  .op (.store dM redR (shapeCast S16x768 (truncf .bf16 acc bitsLt_bf16_f32) shapeCasts_S16x768_S16x768) Finset.univ
    (View.stores_vmem h_S16x768 ((Memref.isWhole_whole cc0_scratch2).storeExact_slice rfl _ packedbf16_S16x768_S16x768_0_0) (fun _ => rfl)) (.inl rfl)) fun _ =>
  sends2 c ks <| recvs2 c ks <| drains1 c ks <| drains2 c ks (.ret ⟨⟩)

/-- The body of device `c`. -/
def prog (c : Dev nD) : TcProg F :=
  signals c ks <|
  .op (.semWait barS ((31 : ℕ) : ℤ)) fun _ =>
  .op (.load wqM wRect.toLoadRect (View.loadsAt_vmem h_S768x256)) fun (wq : Vec F S768x256 .bf16) =>
  .op (.load wkM wRect.toLoadRect (View.loadsAt_vmem h_S768x256)) fun (wk : Vec F S768x256 .bf16) =>
  .op (.load wvM wRect.toLoadRect (View.loadsAt_vmem h_S768x256)) fun (wv : Vec F S768x256 .bf16) =>
  .op (.load woM woRect.toLoadRect (View.loadsAt_vmem h_S256x768)) fun (wo : Vec F S256x768 .bf16) =>
  .op (.load xM (xRect (k0_off1 c) (k0_off1_inb c)).toLoadRect (View.loadsAt_vmem h_S1x256x768)) fun (x0 : Vec F S1x256x768 .bf16) =>
  .op (.load pM (half0 c).toLoadRect (View.loadsAt_vmem h_S256x768)) fun _ =>
  .op (.store pM (half0 c) (halfOut x0 wq wk wv wo) Finset.univ
    (View.stores_vmem h_S256x768 ((Memref.isWhole_whole cc0_scratch0).storeExact_slice rfl _ (k0_off2_packedbf16 c)) (fun _ => rfl)) (.inl rfl)) fun _ =>
  sends1 c ksA <|
  .op (.load xM (xRect (k0_off4 c) (k0_off4_inb c)).toLoadRect (View.loadsAt_vmem h_S1x256x768)) fun (x1 : Vec F S1x256x768 .bf16) =>
  .op (.load pM (half1 c).toLoadRect (View.loadsAt_vmem h_S256x768)) fun _ =>
  .op (.store pM (half1 c) (halfOut x1 wq wk wv wo) Finset.univ
    (View.stores_vmem h_S256x768 ((Memref.isWhole_whole cc0_scratch0).storeExact_slice rfl _ (k0_off5_packedbf16 c)) (fun _ => rfl)) (.inl rfl)) fun _ =>
  sends1 c ksB <|
  .op (.load pM (ownR c).toLoadRect (View.loadsAt_vmem h_S16x768)) fun (own : Vec F S16x768 .bf16) =>
  recvs1 c ks (extf .f32 own bitsLt_bf16_f32) (tailProg c)

set_option maxRecDepth 65536 in
/-- The printed body is `prog`, read at the device it runs on: by definitional unfolding. -/
theorem body_eq :
    cc0_body (F := F) xM (Memref.isWhole_whole _) wqM (Memref.isWhole_whole _) wkM (Memref.isWhole_whole _) wvM (Memref.isWhole_whole _)
        woM (Memref.isWhole_whole _) oM (Memref.isWhole_whole _) pM (Memref.isWhole_whole _) rM (Memref.isWhole_whole _)
        dM (Memref.isWhole_whole _) cc0_scratch3 cc0_scratch4 cc0_scratch5 cc0_scratch6
      = .op .deviceId prog := by
  chain_rfl

end Cert.RopeRun
-- ==== Proof.Schedule.lean ====
/-
What the devices promise each other.

Every semaphore the kernel uses runs through one round. Device `c`'s barrier cell collects one unit from each peer; with the
unit of peer `k` comes the right to write, on that peer, the landing place `k` and the sixteen rows of the result that `c` reduces.
Each transfer completes on two cells: its sender's, which gives the source back, and its receiver's, which hands over
the written rows and says what they hold. The contents are functions of the memory at launch.
-/
module

public import proofs.«01_k».proof.Proof.Program
public import Idealize.ShloMosaic.Lib.Pipeline.Launch
public import Idealize.ShloMosaic.Lib.Pipeline.Kit
public import Idealize.ShloMosaic.Lib.Tactic

@[expose] public section

noncomputable section

namespace Cert.RopeRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Peers -/

theorem peer_val : ∀ (c : Dev nD) (k : Fin 32), (peer c k).val = c.val ^^^ k.val := by decide +kernel
theorem peer_peer : ∀ (c : Dev nD) (k : Fin 32), peer (peer c k) k = c := by decide +kernel
theorem peer_surj : ∀ (c d : Dev nD), ∃ k : Fin 32, peer c k = d := by decide +kernel
theorem peer_zero : ∀ (c : Dev nD), peer c 0 = c := by decide +kernel

theorem peer_eq_iff {c d : Dev nD} {k : Fin 32} : peer d k = c ↔ d = peer c k :=
  ⟨fun h => by rw [← h, peer_peer], fun h => by rw [h, peer_peer]⟩

/-- Peer `k`, as a rearrangement of the devices. -/
def peerEquiv (k : Fin 32) : Dev nD ≃ Dev nD := ⟨fun c => peer c k, fun c => peer c k, fun c => peer_peer c k, fun c => peer_peer c k⟩

theorem ks_nodup : ks.Nodup := by decide
theorem ks_set : ks.toFinset = (Finset.univ : Finset (Fin 32)).erase 0 := by decide
theorem ks_ne : ∀ k ∈ ks, k ≠ 0 := by decide
theorem ksA_ne : ∀ k ∈ ksA, k ≠ 0 := by decide
theorem ksB_ne : ∀ k ∈ ksB, k ≠ 0 := by decide

/-! ## The resources -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The four arrays of transfer semaphores: the first phase's departures and arrivals, the second's. -/
abbrev arrOf : Fin 4 → DmaSems sig S32 := fun | 0 => cc0_scratch3 | 1 => cc0_scratch4 | 2 => cc0_scratch5 | 3 => cc0_scratch6
abbrev semA (a : Fin 4) (k : Fin 32) : DmaSem sig := semOf (arrOf a) k

theorem semA_val : ∀ (a : Fin 4) (k : Fin 32), (semA a k).val = 6 + 32 * a.val + k.val := by decide +kernel

/-- A device's cells: the barrier's, and one per array and peer number. -/
abbrev CIx : Type := Option (Fin 4 × Fin 32)
abbrev csem : CIx → SemLoc sig := fun | none => .reg barS | some ak => .dma (semA ak.1 ak.2)
abbrev kcell (ci : Dev nD × CIx) : GSem nD τ sig := ((ci.1 : Thread nD τ), csem ci.2)
abbrev bar (c : Dev nD) : GSem nD τ sig := ((c : Thread nD τ), .reg barS)
abbrev cell (c : Dev nD) (a : Fin 4) (k : Fin 32) : GSem nD τ sig := ((c : Thread nD τ), .dma (semA a k))

/-- What one transfer of sixteen rows adds to its semaphores. -/
abbrev N : ℕ := (dM).view.dmaCredit
theorem N_pos : 0 < N := View.dmaCredit_pos _ (by decide)

/-! ## Contents -/

variable (m : (ℓ : Loc nD τ sig) → Buf (Elt F) ℓ)

/-- The operands a device stages: the input whole, its blocks of the weights. -/
def xstg (c : Dev nD) : (cc0_stg0_0 : Ref sig .tc).ty.Contents (Elt F) := (win0_0.blk (0 : Fin 1)).view.read (Elt F) (m ((c : Thread nD τ).loc main_arg0))
def wqstg (c : Dev nD) : (cc0_stg1_0 : Ref sig .tc).ty.Contents (Elt F) := (win0_1.blk (0 : Fin 1)).view.read (Elt F) (m ((c : Thread nD τ).loc main_arg1))
def wkstg (c : Dev nD) : (cc0_stg2_0 : Ref sig .tc).ty.Contents (Elt F) := (win0_2.blk (0 : Fin 1)).view.read (Elt F) (m ((c : Thread nD τ).loc main_arg2))
def wvstg (c : Dev nD) : (cc0_stg3_0 : Ref sig .tc).ty.Contents (Elt F) := (win0_3.blk (0 : Fin 1)).view.read (Elt F) (m ((c : Thread nD τ).loc main_arg3))
def wostg (c : Dev nD) : (cc0_stg4_0 : Ref sig .tc).ty.Contents (Elt F) := (win0_4.blk (0 : Fin 1)).view.read (Elt F) (m ((c : Thread nD τ).loc main_arg4))

/-- A device's partial product of the half of the batch it starts with, and of the other half. -/
def first (c : Dev nD) : FVec F S256x768 .bf16 :=
  halfOut (xM.view.readAt (Elt F) (xRect (k0_off1 c) (k0_off1_inb c)).toLoadRect (xstg m c)) (wqstg m c) (wkstg m c) (wvstg m c) (wostg m c)
def second (c : Dev nD) : FVec F S256x768 .bf16 :=
  halfOut (xM.view.readAt (Elt F) (xRect (k0_off4 c) (k0_off4_inb c)).toLoadRect (xstg m c)) (wqstg m c) (wkstg m c) (wvstg m c) (wostg m c)

/-- The buffer of partial products once the first half is stored over contents `f`. -/
def stored0 (c : Dev nD) (f : (cc0_scratch0 : Ref sig .tc).ty.Contents (Elt F)) : (cc0_scratch0 : Ref sig .tc).ty.Contents (Elt F) :=
  (pM.access (half0 c)).write (Elt F) f (first m c) Finset.univ
/-- Both halves stored over contents `f`. -/
def stored1 (c : Dev nD) (f : (cc0_scratch0 : Ref sig .tc).ty.Contents (Elt F)) : (cc0_scratch0 : Ref sig .tc).ty.Contents (Elt F) :=
  (pM.access (half1 c)).write (Elt F) f (second m c) Finset.univ
/-- The whole partial product of a device. -/
def part (c : Dev nD) : (cc0_scratch0 : Ref sig .tc).ty.Contents (Elt F) :=
  stored1 m c (stored0 m c (m ((c : Thread nD τ).loc cc0_scratch0)))

/-- The rows device `c` sends to its peer `k`. -/
def sent (c : Dev nD) (k : Fin 32) : FVec F S16x768 .bf16 := (chunk c k).view.read (Elt F) (part m c)
/-- The rows it keeps. -/
def kept (c : Dev nD) : FVec F S16x768 .bf16 := pM.view.readAt (Elt F) (ownR c).toLoadRect (part m c)
/-- Adding what its peer `k` sent. -/
def addPeer (c : Dev nD) (acc : FVec F S16x768 .f32) (k : Fin 32) : FVec F S16x768 .f32 :=
  addf acc (extf .f32 (sent m (peer c k) k) bitsLt_bf16_f32)
/-- The sum of its rows over all devices. -/
def total (c : Dev nD) : FVec F S16x768 .f32 := ks.foldl (addPeer m c) (extf .f32 (kept m c) bitsLt_bf16_f32)
/-- The rows of the result it reduces. -/
def redV (c : Dev nD) : FVec F S16x768 .bf16 := truncf .bf16 (total m c) bitsLt_bf16_f32
/-- The buffer it sends them from. -/
def redC (c : Dev nD) : (cc0_scratch2 : Ref sig .tc).ty.Contents (Elt F) := redV m c
/-- The result: sixteen rows from each device. -/
def outC : (cc0_stg5_0 : Ref sig .tc).ty.Contents (Elt F) := fun i : S512x768.Idx =>
  redV m ⟨(i 0).val / 16, Nat.div_lt_of_lt_mul (i 0).isLt⟩ (fun | 0 => ⟨(i 0).val % 16, Nat.mod_lt _ (by decide)⟩ | 1 => i 1)

/-! ## Pieces of buffers -/

def chunkPts (c : Dev nD) (k : Fin 32) (f : Buf (Elt F) ((chunk c k).view.loc (c : Thread nD τ))) : sProp 𝕄 :=
  (chunk c k).view.loc (c : Thread nD τ) ↦[(chunk c k).view.set]{fullShare} f
def slotPts (c : Dev nD) (k : Fin 32) (f : Buf (Elt F) ((slot k).view.loc (c : Thread nD τ))) : sProp 𝕄 :=
  (slot k).view.loc (c : Thread nD τ) ↦[(slot k).view.set]{fullShare} f
/-- On device `c`, the rows of the result that device `d` reduces. -/
def rowsPts (c d : Dev nD) (f : Buf (Elt F) ((outRows d).view.loc (c : Thread nD τ))) : sProp 𝕄 :=
  (outRows d).view.loc (c : Thread nD τ) ↦[(outRows d).view.set]{fullShare} f
def redPts (c : Dev nD) (q : PosShare TreeShare) (f : Buf (Elt F) (dM.view.loc (c : Thread nD τ))) : sProp 𝕄 :=
  dM.view.loc (c : Thread nD τ) ↦[dM.view.set]{q} f

instance chunkPts_storable (c : Dev nD) (k : Fin 32) (f) : BI.Storable (upEmb : UEmb _ 𝕄) (chunkPts (F := F) c k f) := by unfold chunkPts; infer_instance
instance slotPts_storable (c : Dev nD) (k : Fin 32) (f) : BI.Storable (upEmb : UEmb _ 𝕄) (slotPts (F := F) c k f) := by unfold slotPts; infer_instance
instance rowsPts_storable (c d : Dev nD) (f) : BI.Storable (upEmb : UEmb _ 𝕄) (rowsPts (F := F) c d f) := by unfold rowsPts; infer_instance
instance redPts_storable (c : Dev nD) (q) (f) : BI.Storable (upEmb : UEmb _ 𝕄) (redPts (F := F) c q f) := by unfold redPts; infer_instance

/-- What is left of a share after `n` halvings, and what the `n + 1`st gave away. -/
def left : ℕ → PosShare TreeShare | 0 => fullShare | n + 1 => (left n).left
/-- The share of the reduced rows that the transfer to peer `k` reads with. -/
def lent (k : Fin 32) : PosShare TreeShare := (left (k.val - 1)).right

/-! ## The schedule -/

/-- With peer `k`'s unit: its landing place `k`, and its copy of the rows `c` reduces. -/
def barPay (c : Dev nD) (k : Fin 32) : sProp 𝕄 :=
  iprop((∃ f, slotPts (peer c k) k f) ∗ ∃ f, rowsPts (peer c k) c f)
def sent1Pay (c : Dev nD) (k : Fin 32) : sProp 𝕄 := chunkPts c k (part m c)
def recv1Pay (c : Dev nD) (k : Fin 32) : sProp 𝕄 :=
  iprop(∃ f : Buf (Elt F) ((slot k).view.loc (c : Thread nD τ)), ⌜(slot k).view.read (Elt F) f = sent m (peer c k) k⌝ ∗ slotPts c k f)
def sent2Pay (c : Dev nD) (k : Fin 32) : sProp 𝕄 := redPts c (lent k) (redC m c)
def recv2Pay (c : Dev nD) (k : Fin 32) : sProp 𝕄 :=
  iprop(∃ f : Buf (Elt F) ((outRows (peer c k)).view.loc (c : Thread nD τ)), ⌜(outRows (peer c k)).view.read (Elt F) f = redV m (peer c k)⌝ ∗ rowsPts c (peer c k) f)

def dmaPay (c : Dev nD) (a : ℕ) (k : Fin 32) : sProp 𝕄 := match a with
  | 0 => sent1Pay m c k | 1 => recv1Pay m c k | 2 => sent2Pay m c k | 3 => recv2Pay m c k | _ => iprop(emp)

/-- Which transfer semaphores have a duty: those of the four arrays, but for number 0. -/
abbrev Used (q : DmaSem sig) : Prop := 6 ≤ q.val ∧ (q.val - 6) % 32 ≠ 0

def rd : Rounds.Schedule (GSem nD τ sig) (Fin 32) 𝕄 where
  duties g r := if r = 0 ∧ g.1.2 = .tc then (match g.2 with | .reg _ => Finset.univ.erase 0 | .dma q => if Used q then {0} else ∅) else ∅
  unitless _ := False
  amount g _ _ := match g.2 with | .reg _ => 1 | .dma _ => N
  payload g _ d := match g.2 with
    | .reg _ => barPay g.1.1 d
    | .dma q => dmaPay m g.1.1 ((q.val - 6) / 32) ⟨(q.val - 6) % 32, Nat.mod_lt _ (by decide)⟩
  amount_pos g _ _ _ := by
    rcases g with ⟨t, _ | _⟩
    · exact Nat.one_pos
    · exact N_pos

instance rd_payload_storable (g : GSem nD τ sig) (r : ℕ) (d : Fin 32) : BI.Storable (upEmb : UEmb _ 𝕄) ((rd (F := F) m).payload g r d) := by
  rcases g with ⟨t, s | q⟩
  · show BI.Storable upEmb (barPay t.1 d)
    unfold barPay; infer_instance
  · show BI.Storable upEmb (dmaPay m t.1 ((q.val - 6) / 32) ⟨(q.val - 6) % 32, Nat.mod_lt _ (by decide)⟩)
    unfold dmaPay sent1Pay recv1Pay sent2Pay recv2Pay
    split <;> infer_instance

section Sched
variable (c : Dev nD) (a : Fin 4) (k : Fin 32)

theorem semA_used (hk : k ≠ 0) : Used (semA a k) := by
  have h := semA_val a k
  have h0 : k.val ≠ 0 := fun h0 => hk (Fin.ext h0)
  refine ⟨by omega, ?_⟩
  rw [h]; have := k.isLt; omega

theorem semA_div : ((semA a k).val - 6) / 32 = a.val := by rw [semA_val a k]; have := k.isLt; omega
theorem semA_mod : (⟨((semA a k).val - 6) % 32, Nat.mod_lt _ (by decide)⟩ : Fin 32) = k :=
  Fin.ext (by show ((semA a k).val - 6) % 32 = k.val; rw [semA_val a k]; have := k.isLt; omega)

theorem duties_bar : (rd (F := F) m).duties (bar c) 0 = Finset.univ.erase 0 := by dsimp only [rd]; exact if_pos ⟨rfl, rfl⟩
theorem duties_cell (hk : k ≠ 0) : (rd (F := F) m).duties (cell c a k) 0 = {0} := by
  dsimp only [rd]; rw [if_pos ⟨rfl, rfl⟩]; exact if_pos (semA_used a k hk)
theorem duties_cell_zero (r : ℕ) : (rd (F := F) m).duties (cell c a 0) r = ∅ := by
  dsimp only [rd]
  split
  · exact if_neg fun h => h.2 (by rw [semA_val a 0]; show (6 + 32 * a.val + 0 - 6) % 32 = 0; omega)
  · rfl
theorem duties_later (g : GSem nD τ sig) : ∀ r, 1 ≤ r → (rd (F := F) m).duties g r = ∅ :=
  fun r hr => by dsimp only [rd]; rw [if_neg fun h => by omega]
theorem amount_bar (d : Fin 32) : (rd (F := F) m).amount (bar c) 0 d = 1 := rfl
theorem amount_cell (d : Fin 32) : (rd (F := F) m).amount (cell c a k) 0 d = N := rfl
theorem payload_bar (d : Fin 32) : (rd (F := F) m).payload (bar c) 0 d = barPay c d := rfl
theorem payload_cell (d : Fin 32) : (rd (F := F) m).payload (cell c a k) 0 d = dmaPay m c a.val k := by
  show dmaPay m c (((semA a k).val - 6) / 32) ⟨((semA a k).val - 6) % 32, Nat.mod_lt _ (by decide)⟩ = _
  rw [semA_mod, semA_div]

theorem expect_bar : (rd (F := F) m).expect (bar c) 0 = 31 := by
  unfold Schedule.expect Schedule.amountOf
  rw [duties_bar, Finset.sum_congr rfl fun d _ => amount_bar m c d, Finset.sum_const]; decide
theorem expect_cell (hk : k ≠ 0) : (rd (F := F) m).expect (cell c a k) 0 = N := by
  unfold Schedule.expect Schedule.amountOf; rw [duties_cell m c a k hk, Finset.sum_singleton, amount_cell]

theorem rest_cell (hk : k ≠ 0) :
    bigSep ((rd (F := F) m).duties (cell c a k) 0 \ ∅) (fun d => (rd (F := F) m).payload (cell c a k) 0 d) = dmaPay m c a.val k := by
  rw [Finset.sdiff_empty, duties_cell m c a k hk, bigSep_singleton, payload_cell]

end Sched

/-! ## A family of resources along a list -/

/-- One resource per entry of the list. -/
def sepL (l : List (Fin 32)) (Φ : Fin 32 → sProp 𝕄) : sProp 𝕄 := l.foldr (fun k P => iprop(Φ k ∗ P)) iprop(emp)

theorem sepL_cons (k : Fin 32) (l : List (Fin 32)) (Φ : Fin 32 → sProp 𝕄) : sepL (k :: l) Φ = iprop(Φ k ∗ sepL l Φ) := rfl

theorem bigSep_toFinset {l : List (Fin 32)} (hl : l.Nodup) (Φ : Fin 32 → sProp 𝕄) : bigSep l.toFinset Φ = sepL l Φ := by
  induction l with
  | nil => rfl
  | cons k l ih =>
    obtain ⟨h1, h2⟩ := List.nodup_cons.mp hl
    rw [List.toFinset_cons, BI.bigSep_insert (fun h => h1 (List.mem_toFinset.mp h)), ih h2]; rfl

/-- Over all peers but oneself. -/
theorem sepL_ks (Φ : Fin 32 → sProp 𝕄) : bigSep (Finset.univ.erase 0) Φ = sepL ks Φ := by rw [← ks_set, bigSep_toFinset ks_nodup]

/-- Over all peers, oneself included. -/
theorem bigSep_peers (Φ : Fin 32 → sProp 𝕄) : bigSep Finset.univ Φ = iprop(Φ 0 ∗ sepL ks Φ) := by
  rw [bigSep_univ_at Φ 0, sepL_ks]

theorem sepL_append (l l' : List (Fin 32)) (Φ : Fin 32 → sProp 𝕄) : sepL (l ++ l') Φ ⊣⊢ iprop(sepL l Φ ∗ sepL l' Φ) := by
  induction l with
  | nil => exact (emp_sep (PROP := sProp 𝕄)).symm
  | cons k l ih =>
    rw [List.cons_append, sepL_cons, sepL_cons]
    exact ⟨(sep_mono_right ih.1).trans (sep_assoc (PROP := sProp 𝕄)).2, (sep_assoc (PROP := sProp 𝕄)).1.trans (sep_mono_right ih.2)⟩

theorem sepL_sep (l : List (Fin 32)) (Φ Ψ : Fin 32 → sProp 𝕄) : sepL l (fun k => iprop(Φ k ∗ Ψ k)) ⊣⊢ iprop(sepL l Φ ∗ sepL l Ψ) := by
  induction l with
  | nil => exact (emp_sep (PROP := sProp 𝕄)).symm
  | cons k l ih =>
    rw [sepL_cons, sepL_cons, sepL_cons]
    constructor
    · iintro ⟨⟨H1, H2⟩, H⟩
      ihave H' := ih.1 $$ H
      icases H' with ⟨H3, H4⟩
      isplitl [H1 H3]
      · isplitl [H1] <;> iassumption
      · isplitl [H2] <;> iassumption
    · iintro ⟨⟨H1, H3⟩, H2, H4⟩
      isplitl [H1 H2]; · isplitl [H1] <;> iassumption
      iapply ih.2; isplitl [H3] <;> iassumption

theorem sepL_mono {l : List (Fin 32)} {Φ Ψ : Fin 32 → sProp 𝕄} (h : ∀ k ∈ l, Φ k ⊢ Ψ k) : sepL l Φ ⊢ sepL l Ψ := by
  induction l with
  | nil => exact BI.Entails.refl _
  | cons k l ih =>
    rw [sepL_cons, sepL_cons]
    exact BIClass.sep_mono (h k List.mem_cons_self) (ih fun k' hk' => h k' (List.mem_cons_of_mem _ hk'))

/-! ## What a device owes, and the levels -/

abbrev Tallies : Type := CellTallies nD τ sig Unit

/-- The listed debts on top of `O`, the first entry's outermost. -/
def owed (f : Fin 32 → Tallies) (l : List (Fin 32)) (O : Tallies) : Tallies := l.foldr (fun k O => O + f k) O

theorem owed_append (f : Fin 32 → Tallies) (l l' : List (Fin 32)) (O : Tallies) : owed f (l ++ l') O = owed f l (owed f l' O) := List.foldr_append

def barDebt (c : Dev nD) (k : Fin 32) : Tallies := tallyAt (bar (peer c k)) () 1
def recv1Debt (c : Dev nD) (k : Fin 32) : Tallies := tallyAt (cell (peer c k) 1 k) () N
def recv2Debt (c : Dev nD) (k : Fin 32) : Tallies := tallyAt (cell (peer c k) 3 k) () N

def O₂ (c : Dev nD) : Tallies := owed (recv2Debt c) ks 0
def O₁ (c : Dev nD) : Tallies := owed (recv1Debt c) ks (O₂ c)
def O₀ (c : Dev nD) : Tallies := owed (barDebt c) ks (O₁ c)

theorem owed_apply (f : Fin 32 → Tallies) (l : List (Fin 32)) (O : Tallies) (g : GSem nD τ sig) (u : Unit) :
    owed f l O g u = (l.map fun k => f k g u).sum + O g u := by
  induction l with
  | nil => rw [List.map_nil, List.sum_nil, Nat.zero_add]; rfl
  | cons k l ih =>
    rw [show owed f (k :: l) O = owed f l O + f k from rfl, Pi.add_apply, Finsupp.add_apply, ih, List.map_cons, List.sum_cons]; omega

theorem owed_pos {f : Fin 32 → Tallies} {l : List (Fin 32)} {O : Tallies} {P : GSem nD τ sig → Prop}
    (hf : ∀ k ∈ l, ∀ g u, 0 < f k g u → P g) (hO : ∀ g u, 0 < O g u → P g) : ∀ g u, 0 < owed f l O g u → P g := by
  induction l with
  | nil => exact hO
  | cons k l ih =>
    intro g u h
    rw [show owed f (k :: l) O = owed f l O + f k from rfl, Pi.add_apply, Finsupp.add_apply] at h
    rcases Nat.eq_zero_or_pos (f k g u) with h0 | h0
    · exact ih (fun k' hk' => hf k' (List.mem_cons_of_mem _ hk')) g u (by omega)
    · exact hf k List.mem_cons_self g u h0

theorem tally_pos {g g' : GSem nD τ sig} {n : ℕ} {u : Unit} (h : 0 < (tallyAt g' () n : Tallies) g u) : g = g' := by
  rw [tallyAt_apply] at h
  by_contra hn
  rw [if_neg fun h' => hn h'.1] at h
  exact Nat.lt_irrefl 0 h

def L (g : GSem nD τ sig) : Finset Unit := if g.1.2 = .tc then {()} else ∅
/-- Barrier cells at 1, the first phase's arrivals at 2, the second's at 3, everything else at 0. -/
def lv (g : GSem nD τ sig) (_ : Unit) : ℕ := match g.2 with
  | .reg _ => 1
  | .dma q => if q.val < 38 then 0 else if q.val < 70 then 2 else if q.val < 102 then 0 else 3

theorem L_of_ne (g : GSem nD τ sig) (h : g.1.2 ≠ .tc) : L g = ∅ := if_neg h
theorem L_tc (c : Dev nD) (sm : SemLoc sig) : L ((c : Thread nD τ), sm) = {()} := if_pos rfl

theorem lv_recv1 (c : Dev nD) (k : Fin 32) : lv (cell c 1 k) () = 2 := by
  have h := semA_val 1 k
  have := k.isLt
  simp only [Fin.val_one] at h
  dsimp only [lv]; rw [if_neg (by omega), if_pos (by omega)]
theorem lv_recv2 (c : Dev nD) (k : Fin 32) : lv (cell c 3 k) () = 3 := by
  have h := semA_val 3 k
  have := k.isLt
  rw [show (3 : Fin 4).val = 3 from rfl] at h
  dsimp only [lv]; rw [if_neg (by omega), if_neg (by omega), if_neg (by omega)]

/-- The cells of a device's thread above level `n`. -/
abbrev Above (n : ℕ) (g : GSem nD τ sig) : Prop := g.1.2 = .tc ∧ n < lv g ()

theorem above_O₂ (c : Dev nD) : ∀ g u, 0 < O₂ c g u → Above 2 g :=
  owed_pos (fun k _ g u h => by rw [tally_pos h]; exact ⟨rfl, by rw [lv_recv2]; decide⟩) (fun g u h => absurd h (Nat.lt_irrefl 0))
theorem above_O₁ (c : Dev nD) : ∀ g u, 0 < O₁ c g u → Above 1 g :=
  owed_pos (fun k _ g u h => by rw [tally_pos h]; exact ⟨rfl, by rw [lv_recv1]; decide⟩) (fun g u h => ⟨(above_O₂ c g u h).1, lt_trans (by decide) (above_O₂ c g u h).2⟩)
theorem above_O₀ (c : Dev nD) : ∀ g u, 0 < O₀ c g u → Above 0 g :=
  owed_pos (fun k _ g u h => by rw [tally_pos h]; exact ⟨rfl, Nat.one_pos⟩) (fun g u h => ⟨(above_O₁ c g u h).1, lt_trans (by decide) (above_O₁ c g u h).2⟩)

/-- A wait at level `n` at most while only cells above `n` are owed. -/
theorem mayWait (c : Dev nD) (sm : SemLoc sig) (n : ℕ) (O : Tallies) (hs : lv ((c : Thread nD τ), sm) () ≤ n) (hO : ∀ g u, 0 < O g u → Above n g) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hs)
    (fun g u hg => (hO g u hg).2)

end Cert.RopeRun
-- ==== Proof.Pieces.lean ====
/-
Where the pieces of the buffers lie, and what a piece written in one way is when read in another.
-/
module

public import proofs.«01_k».proof.Proof.Schedule
public import Idealize.ShloMosaic.Lib.Pipeline.Value
public import Idealize.ShloMosaic.Lib.Pipeline.ValueKit.Geometry

@[expose] public section

noncomputable section

namespace Cert.RopeRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Offsets -/

theorem off3_eq : ∀ (c : Dev nD) (k : Fin 32), k0_off3 c (wd k) = ![16 * (peer c k).val, 0] := by decide +kernel
theorem off2_eq : ∀ c : Dev nD, k0_off2 c = ![256 * (c.val / 16), 0] := by decide +kernel
theorem off5_eq : ∀ c : Dev nD, k0_off5 c = ![256 * (1 - c.val / 16), 0] := by decide +kernel
theorem off1_eq : ∀ c : Dev nD, k0_off1 c = ![c.val / 16, 0, 0] := by decide +kernel
theorem off4_eq : ∀ c : Dev nD, k0_off4 c = ![1 - c.val / 16, 0, 0] := by decide +kernel

theorem half_of_peer : ∀ (c : Dev nD) (k : Fin 32), k ∈ (0 :: ksA).toFinset ↔ (peer c k).val / 16 = c.val / 16 := by decide +kernel
theorem half_of_peer' : ∀ (c : Dev nD) (k : Fin 32), k ∈ ksB.toFinset ↔ (peer c k).val / 16 = 1 - c.val / 16 := by decide +kernel

/-! ## Membership -/

abbrev chunkSet (c : Dev nD) (k : Fin 32) : Finset S512x768.Idx := (chunk c k).view.set
abbrev slotSet (k : Fin 32) : Finset S32x16x768.Idx := (slot k).view.set
abbrev rowsSet (d : Dev nD) : Finset S512x768.Idx := (outRows d).view.set
abbrev half0Set (c : Dev nD) : Finset S512x768.Idx := (pM.access (half0 c)).set
abbrev half1Set (c : Dev nD) : Finset S512x768.Idx := (pM.access (half1 c)).set

/-- A row of a rectangle of `n` whole rows of a buffer of 768 columns. -/
theorem mem_rows {R : Nat} {off : Fin 2 → Nat} {n : Nat} {inb : ∀ a, off a + (![n, 768] : Fin 2 → Nat) a ≤ (⟨2, ![R, 768]⟩ : Shape).size a} {o : Nat}
    (ho : off = ![o, 0]) (i : (⟨2, ![R, 768]⟩ : Shape).Idx) :
    i ∈ (Rect.unit (s := ⟨2, ![R, 768]⟩) off ![n, 768] inb).set ↔ o ≤ (i 0).val ∧ (i 0).val < o + n := by
  subst ho
  rw [Rect.mem_set_unit]
  refine ⟨fun h => h 0, fun h a => ?_⟩
  have h1 : (i 1).val < 768 := (i 1).isLt
  fin_cases a
  · exact h
  · exact ⟨Nat.zero_le _, by show (i 1).val < 0 + 768; omega⟩

theorem mem_chunk (c : Dev nD) (k : Fin 32) (i : S512x768.Idx) : i ∈ chunkSet c k ↔ (i 0).val / 16 = (peer c k).val := by
  have h := ValueKit.mem_set_slice_whole_iff cc0_scratch0 (Rect.unit (s := S512x768) (k0_off3 c (wd k)) S16x768.size (off3_inb c k)) i
    (mem_rows (off3_eq c k) i)
  refine h.trans ?_
  omega
theorem mem_outRows (d : Dev nD) (i : S512x768.Idx) : i ∈ rowsSet d ↔ (i 0).val / 16 = d.val := by
  have h := ValueKit.mem_set_slice_whole_iff cc0_stg5_0 (Rect.unit (s := S512x768) (k0_off7 d) S16x768.size (k0_off7_inb d)) i
    (mem_rows (k0_off7_eq d) i)
  refine h.trans ?_
  omega
theorem mem_half0 (c : Dev nD) (i : S512x768.Idx) : i ∈ half0Set c ↔ (i 0).val / 256 = c.val / 16 := by
  have h := ValueKit.mem_set_slice_whole_iff cc0_scratch0 (half0 c) i (mem_rows (off2_eq c) i)
  refine h.trans ?_
  omega
theorem mem_half1 (c : Dev nD) (i : S512x768.Idx) : i ∈ half1Set c ↔ (i 0).val / 256 = 1 - c.val / 16 := by
  have h := ValueKit.mem_set_slice_whole_iff cc0_scratch0 (half1 c) i (mem_rows (off5_eq c) i)
  refine h.trans ?_
  omega
theorem mem_slot (k : Fin 32) (i : S32x16x768.Idx) : i ∈ slotSet k ↔ i 0 = k := by
  rw [show slotSet k = ((View.whole cc0_scratch1).slice (slotR k)).set from View.set_reshape _ _, View.set_slice_whole]
  show i ∈ (Rect.unit (s := S32x16x768) ![k.val, 0, 0] S1x16x768.size (slot_inb k)).set ↔ _
  rw [Rect.mem_set_unit]
  have h1 : (i 1).val < 16 := (i 1).isLt
  have h2 : (i 2).val < 768 := (i 2).isLt
  constructor
  · intro h
    have h0 : k.val ≤ (i 0).val ∧ (i 0).val < k.val + 1 := h 0
    exact Fin.ext (by omega)
  · rintro h a
    have h0 : (i 0).val = k.val := congrArg Fin.val h
    fin_cases a
    · exact ⟨by show k.val ≤ (i 0).val; omega, by show (i 0).val < k.val + 1; omega⟩
    · exact ⟨Nat.zero_le _, by show (i 1).val < 0 + 16; omega⟩
    · exact ⟨Nat.zero_le _, by show (i 2).val < 0 + 768; omega⟩

/-! ## Partitions -/

theorem peer_inj : ∀ (c : Dev nD) (k k' : Fin 32), peer c k = peer c k' → k = k' := by decide +kernel

theorem chunk_disjoint (c : Dev nD) (s : Finset (Fin 32)) : ∀ k ∈ s, ∀ k' ∈ s, k ≠ k' → Disjoint (chunkSet c k) (chunkSet c k') := by
  intro k _ k' _ hne
  refine Finset.disjoint_left.mpr fun i h h' => hne ?_
  have e : peer c k = peer c k' := Fin.ext (((mem_chunk c k i).mp h).symm.trans ((mem_chunk c k' i).mp h'))
  exact peer_inj c k k' e
theorem slot_disjoint (s : Finset (Fin 32)) : ∀ k ∈ s, ∀ k' ∈ s, k ≠ k' → Disjoint (slotSet k) (slotSet k') := by
  intro k _ k' _ hne
  exact Finset.disjoint_left.mpr fun i h h' => hne (((mem_slot k i).mp h).symm.trans ((mem_slot k' i).mp h'))
theorem outRows_disjoint (s : Finset (Dev nD)) : ∀ d ∈ s, ∀ d' ∈ s, d ≠ d' → Disjoint (rowsSet d) (rowsSet d') := by
  intro d _ d' _ hne
  exact Finset.disjoint_left.mpr fun i h h' => hne (Fin.ext (((mem_outRows d i).mp h).symm.trans ((mem_outRows d' i).mp h')))

theorem halves_disjoint (c : Dev nD) : Disjoint (half0Set c) (half1Set c) := by
  refine Finset.disjoint_left.mpr fun i h h' => ?_
  have h1 := (mem_half0 c i).mp h
  have h2 := (mem_half1 c i).mp h'
  have := c.isLt
  omega
theorem halves_cover (c : Dev nD) : half0Set c ∪ half1Set c = Finset.univ := by
  refine Finset.eq_univ_iff_forall.mpr fun i => Finset.mem_union.mpr ?_
  have h0 : ((i : S512x768.Idx) 0).val < 512 := ((i : S512x768.Idx) 0).isLt
  have hc : c.val < 32 := c.isLt
  by_cases h : ((i : S512x768.Idx) 0).val / 256 = c.val / 16
  · exact .inl ((mem_half0 c i).mpr h)
  · exact .inr ((mem_half1 c i).mpr (by omega))

/-- Sixteen rows of the buffer of partial products, by the peer they are for. -/
theorem exists_chunk (c : Dev nD) (i : S512x768.Idx) : ∃ k : Fin 32, (i 0).val / 16 = (peer c k).val := by
  have h0 : (i 0).val < 512 := (i 0).isLt
  obtain ⟨k, hk⟩ := peer_surj c ⟨(i 0).val / 16, by show (i 0).val / 16 < 32; omega⟩
  exact ⟨k, by rw [hk]⟩

theorem half0_chunks (c : Dev nD) : half0Set c = (0 :: ksA).toFinset.biUnion fun k => chunkSet c k := by
  ext i
  rw [Finset.mem_biUnion]
  refine (mem_half0 c i).trans ⟨fun h => ?_, ?_⟩
  · obtain ⟨k, hk⟩ := exists_chunk c i
    exact ⟨k, (half_of_peer c k).mpr (by rw [← hk]; omega), (mem_chunk c k i).mpr hk⟩
  · rintro ⟨k, hk, hi⟩
    have h1 := (half_of_peer c k).mp hk
    have h2 := (mem_chunk c k i).mp hi
    omega
theorem half1_chunks (c : Dev nD) : half1Set c = ksB.toFinset.biUnion fun k => chunkSet c k := by
  ext i
  rw [Finset.mem_biUnion]
  refine (mem_half1 c i).trans ⟨fun h => ?_, ?_⟩
  · obtain ⟨k, hk⟩ := exists_chunk c i
    exact ⟨k, (half_of_peer' c k).mpr (by rw [← hk]; omega), (mem_chunk c k i).mpr hk⟩
  · rintro ⟨k, hk, hi⟩
    have h1 := (half_of_peer' c k).mp hk
    have h2 := (mem_chunk c k i).mp hi
    omega
theorem chunks_cover (c : Dev nD) : (Finset.univ.biUnion (chunkSet c)) = Finset.univ := by
  refine Finset.eq_univ_iff_forall.mpr fun i => Finset.mem_biUnion.mpr ?_
  obtain ⟨k, hk⟩ := exists_chunk c i
  exact ⟨k, Finset.mem_univ _, (mem_chunk c k i).mpr hk⟩
theorem slots_cover : (Finset.univ.biUnion slotSet) = Finset.univ :=
  Finset.eq_univ_iff_forall.mpr fun i => Finset.mem_biUnion.mpr ⟨(i : S32x16x768.Idx) 0, Finset.mem_univ _, (mem_slot _ i).mpr rfl⟩
theorem outRows_cover : (Finset.univ.biUnion rowsSet) = Finset.univ :=
  Finset.eq_univ_iff_forall.mpr fun i => Finset.mem_biUnion.mpr
    ⟨⟨((i : S512x768.Idx) 0).val / 16, Nat.div_lt_of_lt_mul ((i : S512x768.Idx) 0).isLt⟩, Finset.mem_univ _, (mem_outRows _ i).mpr rfl⟩

/-- The rectangle of the own rows and the piece of the peer that is oneself. -/
theorem own_sub_chunk (c : Dev nD) : pM.view.setOn (ownR c).toLoadRect.set ⊆ chunkSet c 0 := by
  intro i hi
  have h1 : i ∈ (pM.access (ownR c)).set := by rw [show (pM.access (ownR c)).set = (ownR c).set.map pM.view.emb from View.set_slice _ _]; exact hi
  have h := (ValueKit.mem_set_slice_whole_iff cc0_scratch0 (ownR c) i (mem_rows (k0_off6_eq c) i)).mp h1
  refine (mem_chunk c 0 i).mpr ?_
  rw [peer_zero]; omega
theorem own_set (c : Dev nD) : (oM.access (ownR c)).set = rowsSet c := by
  ext i
  rw [mem_outRows]
  refine (ValueKit.mem_set_slice_whole_iff cc0_stg5_0 (ownR c) i (mem_rows (k0_off6_eq c) i)).trans ?_
  omega
theorem load_sub {S : Shape} {e : EltTy} {sp : CoreSpace} (M : Memref sig .tc sp S e) (r : Rect S) : M.view.setOn r.toLoadRect.set ⊆ (M.access r).set := by
  rw [show (M.access r).set = r.set.map M.view.emb from View.set_slice _ _]; exact Finset.Subset.refl _
theorem slot_load_sub (k : Fin 32) : rM.view.setOn (slotR k).toLoadRect.set ⊆ slotSet k := by
  rw [show slotSet k = (rM.access (slotR k)).set from View.set_reshape _ _]; exact load_sub rM (slotR k)

/-! ## Contents -/

variable (m : (ℓ : Loc nD τ sig) → Buf (Elt F) ℓ)

theorem write_eq_of_mem {S : Shape} {e : EltTy} {sp : Space} (v : View sig .tc sp S e) (f g : v.ty.Contents (Elt F)) (w : S.Idx → Elt F e)
    {i : v.ty.Idx} (hi : i ∈ v.set) : v.write (Elt F) f w Finset.univ i = v.write (Elt F) g w Finset.univ i := by
  obtain ⟨y, rfl⟩ := View.exists_emb_of_mem_set v hi
  rw [View.write_emb_of_mem _ _ (Finset.mem_univ y), View.write_emb_of_mem _ _ (Finset.mem_univ y)]

theorem part_half0 (c : Dev nD) (f : (cc0_scratch0 : Ref sig .tc).ty.Contents (Elt F)) :
    ∀ i ∈ half0Set c, stored0 m c f i = part m c i := by
  intro i hi
  have h : part m c i = stored0 m c (m ((c : Thread nD τ).loc cc0_scratch0)) i :=
    View.write_of_not_mem _ _ _ (fun h => Finset.disjoint_left.mp (halves_disjoint c) hi h)
  exact (write_eq_of_mem _ _ _ _ hi).trans h.symm
theorem part_half1 (c : Dev nD) (f : (cc0_scratch0 : Ref sig .tc).ty.Contents (Elt F)) :
    ∀ i ∈ half1Set c, stored1 m c f i = part m c i := by
  intro i hi
  unfold part stored1
  exact write_eq_of_mem _ _ _ _ hi

/-- A landed chunk, read by the load. -/
theorem load_slot (k : Fin 32) (f : (cc0_scratch1 : Ref sig .tc).ty.Contents (Elt F)) :
    shapeCast S16x768 (rM.view.readAt (Elt F) (slotR k).toLoadRect f) shapeCasts_S1x16x768_S16x768 = (slot k).view.read (Elt F) f := rfl

theorem outC_row (d : Dev nD) (y : S16x768.Idx) (i : S512x768.Idx) (h0 : (i 0).val = 16 * d.val + (y 0).val) (h1 : (i 1).val = (y 1).val) :
    outC m i = redV m d y := by
  have hy : (y 0).val < 16 := (y 0).isLt
  show redV m ⟨(i 0).val / 16, _⟩ _ = _
  have hd : (⟨(i 0).val / 16, Nat.div_lt_of_lt_mul (i 0).isLt⟩ : Dev nD) = d := Fin.ext (by show (i 0).val / 16 = d.val; omega)
  rw [hd]
  refine congrArg (redV m d) (funext fun a => ?_)
  match a with
  | 0 => exact Fin.ext (by show (i 0).val % 16 = (y 0).val; omega)
  | 1 => exact Fin.ext h1

theorem rows_eq_outC (d : Dev nD) (f : (cc0_stg5_0 : Ref sig .tc).ty.Contents (Elt F)) (hf : (outRows d).view.read (Elt F) f = redV m d) :
    ∀ i ∈ rowsSet d, f i = outC m i := by
  intro i hi
  obtain ⟨y, rfl⟩ := View.exists_emb_of_mem_set _ hi
  have e := ValueKit.view_emb_slice_whole_unit_val cc0_stg5_0 (k0_off7 d) S16x768.size (k0_off7_inb d) y
  have e0 := (e 0).trans (congrArg (fun o : Fin 2 → Nat => o 0 + (y 0).val) (k0_off7_eq d))
  have e1 := (e 1).trans (congrArg (fun o : Fin 2 → Nat => o 1 + (y 1).val) (k0_off7_eq d))
  rw [outC_row m d y _ e0 (e1.trans (Nat.zero_add _)), ← hf]
  rfl
theorem own_eq_outC (c : Dev nD) (f : (cc0_stg5_0 : Ref sig .tc).ty.Contents (Elt F)) :
    ∀ i ∈ rowsSet c, (oM.access (ownR c)).write (Elt F) f (redV m c) Finset.univ i = outC m i := by
  intro i hi
  rw [← own_set] at hi
  obtain ⟨y, rfl⟩ := View.exists_emb_of_mem_set _ hi
  have e := ValueKit.view_emb_slice_whole_unit_val cc0_stg5_0 (k0_off6 c) S16x768.size (k0_off6_inb c) y
  have e0 := (e 0).trans (congrArg (fun o : Fin 2 → Nat => o 0 + (y 0).val) (k0_off6_eq c))
  have e1 := (e 1).trans (congrArg (fun o : Fin 2 → Nat => o 1 + (y 1).val) (k0_off6_eq c))
  rw [outC_row m c y _ e0 (e1.trans (Nat.zero_add _)), View.write_emb_of_mem _ _ (Finset.mem_univ y)]
  rfl

end Cert.RopeRun
-- ==== Proof.Steps.lean ====
/-
The phases of the kernel's body, each along its list of peers.
-/
module

public import proofs.«01_k».proof.Proof.Pieces

@[expose] public section

noncomputable section

namespace Cert.RopeRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`. -/
abbrev wpc (c : Dev nD) (p : TcProg F) (Q : PUnit → sProp 𝕄) : sProp 𝕄 := wp frame (wpE (defs₀ (F := F)) 𝒱₀ (c : Thread nD τ) none) Set.univ p Q

/-- What every device knows: each cell's invariant, and that its round has begun. -/
def records (K : Dev nD × CIx → ℕ) : sProp 𝕄 :=
  iprop((bigSep Finset.univ fun ci : Dev nD × CIx => cellInv ER (rd m) (K ci) (kcell ci)) ∗ bigSep Finset.univ fun ci : Dev nD × CIx => reached ER (kcell ci) 0)

instance records_persistent (K : Dev nD × CIx → ℕ) : BI.Persistent (records m K) := by unfold records; infer_instance

section
variable (K : Dev nD × CIx → ℕ)

theorem records_inv (ci : Dev nD × CIx) : records m K ⊢ cellInv ER (rd m) (K ci) (kcell ci) := by
  unfold records; exact (sep_elim_left (PROP := sProp 𝕄)).trans (bigSep_elim (Finset.mem_univ ci))
theorem records_reached (ci : Dev nD × CIx) : records m K ⊢ reached ER (kcell ci) 0 := by
  unfold records; exact (sep_elim_right (PROP := sProp 𝕄)).trans (bigSep_elim (Finset.mem_univ ci))

/-- What a device owes, whatever it has waited for. -/
def owesX (c : Dev nD) (O : Tallies) : sProp 𝕄 := iprop(∃ W, owes (c : Thread nD τ) O W)

/-! ## Signals -/

theorem signals_run (c : Dev nD) (O : Tallies) (rest : TcProg F) (Q : PUnit → sProp 𝕄) (l : List (Fin 32)) (hl : ∀ k ∈ l, k ≠ 0) :
    iprop(records m K ∗ owesX c (owed (barDebt c) l O) ∗ sepL l (fun k => iprop(dutyTok ER (bar (peer c k)) 0 k ∗ barPay (peer c k) k)))
      ⊢ iprop((owesX c O -∗ wpc c rest Q) -∗ wpc c (signals c l rest) Q) := by
  induction l with
  | nil =>
    iintro ⟨-, HO, -⟩ Hk
    iapply Hk; iexact HO
  | cons k l ih =>
    rw [sepL_cons]
    unfold owesX at ih ⊢
    iintro ⟨#HR, ⟨%W, HO⟩, ⟨Htok, Hpay⟩, Hl⟩ Hk
    iapply (Rounds.wp_signal 𝒱₀ ER (rd m) (c : Thread nD τ) none (dst := (peer c k : Thread nD τ)) (κ := K (peer c k, none))
        (d := k) (by rw [duties_bar]; exact Finset.mem_erase.mpr ⟨hl k List.mem_cons_self, Finset.mem_univ _⟩)
        (amount_bar m (peer c k) k) () (owed (barDebt c) l O) rfl (W := W)) $$ [HO Htok Hpay]
    · isplitr; · iapply (records_inv m K (peer c k, none)); iexact HR
      isplitl [HO]; · iexact HO
      isplitl [Htok]; · iexact Htok
      isplitl [Hpay]; · rw [payload_bar]; iexact Hpay
      iapply (records_reached m K (peer c k, none)); iexact HR
    iintro HO
    iapply (ih fun k' hk' => hl k' (List.mem_cons_of_mem _ hk')) $$ [HO Hl]
    · isplitr; · iexact HR
      isplitl [HO]; · iexists W; iexact HO
      iexact Hl
    iexact Hk

/-! ## Waits -/

/-- A wait on a transfer's cell: the cell's payload, and its counter back at zero. -/
theorem wp_await (c : Dev nD) (a : Fin 4) (k : Fin 32) (hk : k ≠ 0) (O : Tallies) (hO : (levAts L lv : sProp 𝕄) ⊢ MayWait (c : Thread nD τ) (.dma (semA a k)) () O)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (.dma (semA a k)) N K)
    (rest : PUnit → TcProg F) (Q : PUnit → sProp 𝕄) :
    iprop(records m K ∗ levAts L lv ∗ owesX c O ∗ cred (tallyAt (cell c a k) () N) ∗ atPos ER (cell c a k) 0 ∅ 0)
      ⊢ iprop(((owesX c O ∗ semVal (cell c a k) 0 ∗ dmaPay m c a.val k) -∗ wpc c (rest ⟨⟩) Q) -∗ wpc c (.op w rest) Q) := by
  unfold owesX
  iintro ⟨#HR, #Hlev, ⟨%W, HO⟩, Hc, Hat⟩ Hk
  iapply (Rounds.wp_wait_rest_token 𝒱₀ ER (rd m) (c : Thread nD τ) none (κ := K (c, some (a, k))) hw (Set.mem_univ _) ()
      (O := O) (W := W) (R := 0) (m := 0) (T := ∅) (by rw [Nat.zero_add]; exact (expect_cell m c a k hk).symm)) $$ [Hc HO Hat]
  · isplitr; · iapply (records_inv m K (c, some (a, k))); iexact HR
    isplitl [Hc]; · iexact Hc
    isplitl [HO]; · iexact HO
    isplitr; · iapply hO; iexact Hlev
    iexact Hat
  iintro ⟨HO, Hat, -, Hpay⟩
  ihave Hp := (Entails.of_eq (rest_cell m c a k hk)) $$ Hpay
  imod (Rounds.cell_close ER (rd m) (Set.mem_univ (K (c, some (a, k)))) (fun h => h) (R := 0 + 1) (duties_later m (cell c a k))) $$ [Hat] with Hz
  · isplitr; · iapply (records_inv m K (c, some (a, k))); iexact HR
    iexact Hat
  iapply Hk
  isplitl [HO]; · iexists _; iexact HO
  isplitl [Hz] <;> iassumption

/-- Waits only, one per listed peer, on the cells of one array. -/
theorem awaits_run (c : Dev nD) (a : Fin 4) (O : Tallies) (hO : ∀ k, (levAts L lv : sProp 𝕄) ⊢ MayWait (c : Thread nD τ) (.dma (semA a k)) () O)
    (steps : List (Fin 32) → TcProg F → TcProg F) (w : Fin 32 → TpuEff nD τ sig (Elt F) Λ₀ .tc PUnit)
    (hw : ∀ k, ∀ K : PUnit → sProp 𝕄, wpE (defs₀ (F := F)) 𝒱₀ (c : Thread nD τ) none Set.univ (w k) K = waitSpec (c : Thread nD τ) Set.univ (.dma (semA a k)) N K)
    (hnil : ∀ p, steps [] p = p) (hcons : ∀ k l p, steps (k :: l) p = .op (w k) fun _ => steps l p)
    (rest : TcProg F) (Q : PUnit → sProp 𝕄) (l : List (Fin 32)) (hl : ∀ k ∈ l, k ≠ 0) :
    iprop(records m K ∗ levAts L lv ∗ owesX c O ∗ sepL l (fun k => iprop(cred (tallyAt (cell c a k) () N) ∗ atPos ER (cell c a k) 0 ∅ 0)))
      ⊢ iprop(((owesX c O ∗ sepL l (fun k => semVal (cell c a k) 0) ∗ sepL l (fun k => dmaPay m c a.val k)) -∗ wpc c rest Q) -∗ wpc c (steps l rest) Q) := by
  induction l with
  | nil =>
    rw [hnil]
    iintro ⟨-, -, HO, -⟩ Hk
    iapply Hk
    isplitl [HO]; · iexact HO
    isplitl <;> iempintro
  | cons k l ih =>
    rw [sepL_cons, sepL_cons, sepL_cons, hcons]
    iintro ⟨#HR, #Hlev, HO, ⟨Hc, Hat⟩, Hl⟩ Hk
    iapply (wp_await m K c a k (hl k List.mem_cons_self) O (hO k) (hw k) (fun _ => steps l rest) Q) $$ [HO Hc Hat]
    · isplitr; · iexact HR
      isplitr; · iexact Hlev
      isplitl [HO]; · iexact HO
      isplitl [Hc] <;> iassumption
    iintro ⟨HO, Hz, Hp⟩
    iapply (ih fun k' hk' => hl k' (List.mem_cons_of_mem _ hk')) $$ [HO Hl]
    · isplitr; · iexact HR
      isplitr; · iexact Hlev
      isplitl [HO] <;> iassumption
    iintro ⟨HO, Hzs, Hps⟩
    iapply Hk
    isplitl [HO]; · iexact HO
    isplitl [Hz Hzs]
    · isplitl [Hz] <;> iassumption
    isplitl [Hp] <;> iassumption

/-- The first phase's arrivals: each awaited, loaded and added. -/
theorem recvs1_run (c : Dev nD) (O : Tallies) (hO : ∀ k, (levAts L lv : sProp 𝕄) ⊢ MayWait (c : Thread nD τ) (.dma (semA 1 k)) () O)
    (rest : FVec F S16x768 .f32 → TcProg F) (Q : PUnit → sProp 𝕄) (l : List (Fin 32)) (hl : ∀ k ∈ l, k ≠ 0) (acc : FVec F S16x768 .f32) :
    iprop(records m K ∗ levAts L lv ∗ owesX c O ∗ sepL l (fun k => iprop(cred (tallyAt (cell c 1 k) () N) ∗ atPos ER (cell c 1 k) 0 ∅ 0)))
      ⊢ iprop(((owesX c O ∗ sepL l (fun k => semVal (cell c 1 k) 0) ∗ sepL l (fun k => iprop(∃ f, slotPts c k f)))
          -∗ wpc c (rest (l.foldl (addPeer m c) acc)) Q) -∗ wpc c (recvs1 c l acc rest) Q) := by
  induction l generalizing acc with
  | nil =>
    iintro ⟨-, -, HO, -⟩ Hk
    iapply Hk
    isplitl [HO]; · iexact HO
    isplitl <;> iempintro
  | cons k l ih =>
    rw [sepL_cons, sepL_cons, sepL_cons]
    iintro ⟨#HR, #Hlev, HO, ⟨Hc, Hat⟩, Hl⟩ Hk
    iapply (wp_await m K c 1 k (hl k List.mem_cons_self) O (hO k) (w := .waitDma2 (recv1 k) (chunk c k) (slot k) (chunk_wx c k) (slot_wx k))
      (wpE_waitDma2_eq 𝒱₀ (c : Thread nD τ) none Set.univ)
      (fun _ => .op (.load rM (slotR k).toLoadRect (View.loadsAt_vmem h_S1x16x768)) fun (v : Vec F S1x16x768 .bf16) => recvs1 c l (accStep acc v) rest) Q) $$ [HO Hc Hat]
    · isplitr; · iexact HR
      isplitr; · iexact Hlev
      isplitl [HO]; · iexact HO
      isplitl [Hc] <;> iassumption
    iintro ⟨HO, Hz, Hp⟩
    ihave Hp := (Entails.of_eq (show dmaPay m c (1 : Fin 4).val k = recv1Pay m c k from rfl)) $$ Hp
    unfold recv1Pay slotPts
    icases Hp with ⟨%f, %hf, Hf⟩
    iapply (wp_load 𝒱₀ (c : Thread nD τ) none Set.univ (m := rM) (slot_load_sub k)) $$ Hf
    iintro Hf
    have hacc : accStep acc (rM.view.readAt (Elt F) (slotR k).toLoadRect f) = addPeer m c acc k := by
      unfold accStep addPeer; rw [load_slot, hf]
    rw [hacc]
    iapply (ih (fun k' hk' => hl k' (List.mem_cons_of_mem _ hk')) (addPeer m c acc k)) $$ [HO Hl]
    · isplitr; · iexact HR
      isplitr; · iexact Hlev
      isplitl [HO] <;> iassumption
    iintro ⟨HO, Hzs, Hps⟩
    iapply Hk
    isplitl [HO]; · iexact HO
    isplitl [Hz Hzs]
    · isplitl [Hz] <;> iassumption
    isplitl [Hf]
    · iexists f; iexact Hf
    iexact Hps

/-! ## Transfers -/

theorem recv1_intro (c : Dev nD) (k : Fin 32) (fd : Buf (Elt F) ((slot k).view.loc (peer c k : Thread nD τ))) :
    slotPts (peer c k) k ((slot k).view.write (Elt F) fd ((chunk c k).view.read (Elt F) (part m c)) Finset.univ) ⊢ recv1Pay m (peer c k) k := by
  unfold recv1Pay
  iintro H
  iexists ((slot k).view.write (Elt F) fd ((chunk c k).view.read (Elt F) (part m c)) Finset.univ)
  isplitr
  · ipureintro; rw [peer_peer]; exact View.read_write_univ _ _
  iexact H

theorem recv2_intro (c : Dev nD) (k : Fin 32) (fd : Buf (Elt F) ((outRows c).view.loc (peer c k : Thread nD τ))) :
    rowsPts (peer c k) c ((outRows c).view.write (Elt F) fd (dM.view.read (Elt F) (redC m c)) Finset.univ) ⊢ recv2Pay m (peer c k) k := by
  unfold recv2Pay
  rw [peer_peer]
  iintro H
  iexists ((outRows c).view.write (Elt F) fd (dM.view.read (Elt F) (redC m c)) Finset.univ)
  isplitr
  · ipureintro; exact View.read_write_univ _ _
  iexact H

theorem sends1_run (c : Dev nD) (O : Tallies) (rest : TcProg F) (Q : PUnit → sProp 𝕄) (l : List (Fin 32)) (hl : ∀ k ∈ l, k ≠ 0) :
    iprop(records m K ∗ owesX c (owed (recv1Debt c) l O) ∗ sepL l (fun k => iprop(chunkPts c k (part m c) ∗ (∃ f, slotPts (peer c k) k f)
          ∗ dutyTok ER (cell c 0 k) 0 0 ∗ dutyTok ER (cell (peer c k) 1 k) 0 0)))
      ⊢ iprop(((owesX c O ∗ sepL l (fun k => cred (tallyAt (cell c 0 k) () N))) -∗ wpc c rest Q) -∗ wpc c (sends1 c l rest) Q) := by
  induction l with
  | nil =>
    iintro ⟨-, HO, -⟩ Hk
    iapply Hk; isplitl [HO]; · iexact HO
    iempintro
  | cons k l ih =>
    rw [sepL_cons, sepL_cons]
    unfold owesX at ih ⊢
    unfold slotPts chunkPts at ih ⊢
    iintro ⟨#HR, ⟨%W, HO⟩, ⟨Hs, ⟨%f, Hd⟩, Ht, Ht'⟩, Hl⟩ Hk
    have hk := hl k List.mem_cons_self
    iapply (Rounds.wp_send_pointsTo 𝒱₀ ER (rd m) (c : Thread nD τ) none (κ₁ := K (c, some (0, k))) (κ₂ := K (peer c k, some (1, k)))
        (r₁ := 0) (r₂ := 0) (d₁ := 0) (d₂ := 0) (fs := part m c) (fd := f)
        (by rw [duties_cell m c 0 k hk]; exact Finset.mem_singleton_self _) (by rw [duties_cell m (peer c k) 1 k hk]; exact Finset.mem_singleton_self _)
        () () N rfl (amount_cell m c 0 k 0) (amount_cell m (peer c k) 1 k 0) (owed (recv1Debt c) l O) rfl (W := W)
        (by rw [payload_cell m c 0 k 0]; exact BI.Entails.refl _)
        (by rw [payload_cell m (peer c k) 1 k 0]; exact recv1_intro m c k f)) $$ [Hs Hd HO Ht Ht']
    · isplitr; · iapply (records_inv m K (c, some (0, k))); iexact HR
      isplitr; · iapply (records_inv m K (peer c k, some (1, k))); iexact HR
      isplitl [Hs]; · iexact Hs
      isplitl [Hd]; · iexact Hd
      isplitl [HO]; · iexact HO
      isplitl [Ht]; · iexact Ht
      isplitr; · iapply (records_reached m K (c, some (0, k))); iexact HR
      isplitl [Ht']; · iexact Ht'
      iapply (records_reached m K (peer c k, some (1, k))); iexact HR
    iintro ⟨Hc, HO⟩
    iapply (ih fun k' hk' => hl k' (List.mem_cons_of_mem _ hk')) $$ [HO Hl]
    · isplitr; · iexact HR
      isplitl [HO]; · iexists W; iexact HO
      iexact Hl
    iintro ⟨HO, Hcs⟩
    iapply Hk
    isplitl [HO]; · iexact HO
    isplitl [Hc] <;> iassumption

theorem sends2_run (c : Dev nD) (O : Tallies) (rest : TcProg F) (Q : PUnit → sProp 𝕄) (l : List (Fin 32)) (hl : ∀ k ∈ l, k ≠ 0) :
    iprop(records m K ∗ owesX c (owed (recv2Debt c) l O) ∗ sepL l (fun k => iprop(redPts c (lent k) (redC m c) ∗ (∃ f, rowsPts (peer c k) c f)
          ∗ dutyTok ER (cell c 2 k) 0 0 ∗ dutyTok ER (cell (peer c k) 3 k) 0 0)))
      ⊢ iprop(((owesX c O ∗ sepL l (fun k => cred (tallyAt (cell c 2 k) () N))) -∗ wpc c rest Q) -∗ wpc c (sends2 c l rest) Q) := by
  induction l with
  | nil =>
    iintro ⟨-, HO, -⟩ Hk
    iapply Hk; isplitl [HO]; · iexact HO
    iempintro
  | cons k l ih =>
    rw [sepL_cons, sepL_cons]
    unfold owesX at ih ⊢
    unfold redPts rowsPts at ih ⊢
    iintro ⟨#HR, ⟨%W, HO⟩, ⟨Hs, ⟨%f, Hd⟩, Ht, Ht'⟩, Hl⟩ Hk
    have hk := hl k List.mem_cons_self
    iapply (Rounds.wp_send_pointsTo 𝒱₀ ER (rd m) (c : Thread nD τ) none (κ₁ := K (c, some (2, k))) (κ₂ := K (peer c k, some (3, k)))
        (r₁ := 0) (r₂ := 0) (d₁ := 0) (d₂ := 0) (fs := redC m c) (fd := f)
        (by rw [duties_cell m c 2 k hk]; exact Finset.mem_singleton_self _) (by rw [duties_cell m (peer c k) 3 k hk]; exact Finset.mem_singleton_self _)
        () () N rfl (amount_cell m c 2 k 0) (amount_cell m (peer c k) 3 k 0) (owed (recv2Debt c) l O) rfl (W := W)
        (by rw [payload_cell m c 2 k 0]; exact BI.Entails.refl _)
        (by rw [payload_cell m (peer c k) 3 k 0]; exact recv2_intro m c k f)) $$ [Hs Hd HO Ht Ht']
    · isplitr; · iapply (records_inv m K (c, some (2, k))); iexact HR
      isplitr; · iapply (records_inv m K (peer c k, some (3, k))); iexact HR
      isplitl [Hs]; · iexact Hs
      isplitl [Hd]; · iexact Hd
      isplitl [HO]; · iexact HO
      isplitl [Ht]; · iexact Ht
      isplitr; · iapply (records_reached m K (c, some (2, k))); iexact HR
      isplitl [Ht']; · iexact Ht'
      iapply (records_reached m K (peer c k, some (3, k))); iexact HR
    iintro ⟨Hc, HO⟩
    iapply (ih fun k' hk' => hl k' (List.mem_cons_of_mem _ hk')) $$ [HO Hl]
    · isplitr; · iexact HR
      isplitl [HO]; · iexists W; iexact HO
      iexact Hl
    iintro ⟨HO, Hcs⟩
    iapply Hk
    isplitl [HO]; · iexact HO
    isplitl [Hc] <;> iassumption

end

end Cert.RopeRun
-- ==== Proof.Split.lean ====
/-
Buffers taken apart into the pieces that travel, and put together again.
-/
module

public import proofs.«01_k».proof.Proof.Steps

@[expose] public section

noncomputable section

namespace Cert.RopeRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- All of a buffer of device `c`. -/
abbrev whole (c : Dev nD) (b : Ref sig .tc) (f : Buf (Elt F) ((c : Thread nD τ).loc b)) : sProp 𝕄 := ((c : Thread nD τ).loc b) ↦{fullShare} f

/-- The peers of a device, as an indexing of all devices. -/
def peerIx (c : Dev nD) : Fin 32 ≃ Dev nD := Equiv.ofBijective (peer c) ⟨fun k k' => peer_inj c k k', peer_surj c⟩

/-! ## The result's rows -/

theorem rows_whole (c : Dev nD) (f : (cc0_stg5_0 : Ref sig .tc).ty.Contents (Elt F)) :
    (whole c cc0_stg5_0 f : sProp 𝕄) = iprop(rowsPts c c f ∗ sepL ks fun k => rowsPts c (peer c k) f) := by
  have h : (whole c cc0_stg5_0 f : sProp 𝕄) = bigSep Finset.univ fun d => rowsPts c d f := by
    have h1 := pointsTo_biUnion (Ix := Unit) (Name := ℕ) (U := UU) (Lvl := ℕ) (ℓ := (c : Thread nD τ).loc cc0_stg5_0) (q := fullShare) (f := f) Finset.univ rowsSet (outRows_disjoint Finset.univ)
    rw [outRows_cover] at h1
    exact h1
  rw [h, bigSep_univ_equiv (peerIx c) (fun d => rowsPts c d f)]
  refine (bigSep_peers fun k => rowsPts c (peer c k) f).trans ?_
  rw [peer_zero]

theorem rows_split (c : Dev nD) (f : (cc0_stg5_0 : Ref sig .tc).ty.Contents (Elt F)) :
    (whole c cc0_stg5_0 f : sProp 𝕄) ⊢ iprop(rowsPts c c f ∗ sepL ks fun k => iprop(∃ f, rowsPts c (peer c k) f)) := by
  rw [rows_whole]
  refine sep_mono_right (sepL_mono fun k _ => ?_)
  iintro H; iexists f; iexact H

theorem rows_join (c : Dev nD) (f : (cc0_stg5_0 : Ref sig .tc).ty.Contents (Elt F)) :
    iprop(rowsPts c c ((oM.access (ownR c)).write (Elt F) f (redV m c) Finset.univ) ∗ sepL ks fun k => recv2Pay m c k)
      ⊢ (whole c cc0_stg5_0 (outC m) : sProp 𝕄) := by
  rw [rows_whole]
  refine BIClass.sep_mono (Entails.of_eq ?_) (sepL_mono fun k _ => ?_)
  · unfold rowsPts; exact pointsTo_congr (own_eq_outC m c f)
  · unfold recv2Pay rowsPts
    iintro ⟨%g, %hg, H⟩
    iapply (Entails.of_eq (pointsTo_congr (rows_eq_outC m (peer c k) g hg)))
    iexact H

/-! ## The landing places -/

theorem slots_split (c : Dev nD) (f : (cc0_scratch1 : Ref sig .tc).ty.Contents (Elt F)) :
    (whole c cc0_scratch1 f : sProp 𝕄) ⊢ iprop((∃ f, slotPts c 0 f) ∗ sepL ks fun k => iprop(∃ f, slotPts c k f)) := by
  have h : (whole c cc0_scratch1 f : sProp 𝕄) = bigSep Finset.univ fun k => slotPts c k f := by
    have h1 := pointsTo_biUnion (Ix := Unit) (Name := ℕ) (U := UU) (Lvl := ℕ) (ℓ := (c : Thread nD τ).loc cc0_scratch1) (q := fullShare) (f := f) Finset.univ slotSet (slot_disjoint Finset.univ)
    rw [slots_cover] at h1
    exact h1
  rw [h, bigSep_peers]
  refine BIClass.sep_mono ?_ (sepL_mono fun k _ => ?_) <;> (iintro H; iexists f; iexact H)

theorem slots_join (c : Dev nD) (f₀ : (cc0_scratch1 : Ref sig .tc).ty.Contents (Elt F)) :
    iprop((∃ f, slotPts c 0 f) ∗ sepL ks fun k => iprop(∃ f, slotPts c k f)) ⊢ (iprop(∃ f, whole c cc0_scratch1 f) : sProp 𝕄) := by
  rw [← bigSep_peers fun k => iprop(∃ f, slotPts c k f)]
  refine (bigSep_exists_pi Finset.univ _).trans ?_
  iintro ⟨%fs, H⟩
  unfold slotPts
  ihave H' := (pointsTo_biUnion_join (ℓ := (c : Thread nD τ).loc cc0_scratch1) (q := fullShare) Finset.univ slotSet fs f₀ (slot_disjoint Finset.univ)) $$ H
  icases H' with ⟨%g, -, Hg⟩
  iexists g
  rw [slots_cover]
  iexact Hg

/-! ## The partial products -/

theorem halves_split (c : Dev nD) (f : (cc0_scratch0 : Ref sig .tc).ty.Contents (Elt F)) :
    (whole c cc0_scratch0 f : sProp 𝕄) ⊢ iprop((((c : Thread nD τ).loc cc0_scratch0) ↦[half0Set c]{fullShare} f) ∗ (((c : Thread nD τ).loc cc0_scratch0) ↦[half1Set c]{fullShare} f)) := by
  unfold whole
  rw [← halves_cover c]
  exact (pointsTo_union (halves_disjoint c)).1

theorem half0_split (c : Dev nD) (f : (cc0_scratch0 : Ref sig .tc).ty.Contents (Elt F)) :
    ((((c : Thread nD τ).loc cc0_scratch0) ↦[half0Set c]{fullShare} stored0 m c f) : sProp 𝕄) ⊢ iprop(chunkPts c 0 (part m c) ∗ sepL ksA fun k => chunkPts c k (part m c)) := by
  rw [pointsTo_congr (part_half0 m c f), half0_chunks, pointsTo_biUnion _ _ (chunk_disjoint c _), bigSep_toFinset (by decide)]
  exact BI.Entails.refl _

theorem half1_split (c : Dev nD) (f : (cc0_scratch0 : Ref sig .tc).ty.Contents (Elt F)) :
    ((((c : Thread nD τ).loc cc0_scratch0) ↦[half1Set c]{fullShare} stored1 m c f) : sProp 𝕄) ⊢ sepL ksB fun k => chunkPts c k (part m c) := by
  rw [pointsTo_congr (part_half1 m c f), half1_chunks, pointsTo_biUnion _ _ (chunk_disjoint c _), bigSep_toFinset (by decide)]
  exact BI.Entails.refl _

theorem chunks_join (c : Dev nD) (f : (cc0_scratch0 : Ref sig .tc).ty.Contents (Elt F)) :
    iprop(chunkPts c 0 f ∗ sepL ks fun k => chunkPts c k f) ⊢ (whole c cc0_scratch0 f : sProp 𝕄) := by
  rw [← bigSep_peers fun k => chunkPts c k f]
  have h1 := pointsTo_biUnion (Ix := Unit) (Name := ℕ) (U := UU) (Lvl := ℕ) (ℓ := (c : Thread nD τ).loc cc0_scratch0) (q := fullShare) (f := f) Finset.univ (chunkSet c) (chunk_disjoint c Finset.univ)
  rw [chunks_cover] at h1
  exact Entails.of_eq h1.symm

theorem sepL_halves (Φ : Fin 32 → sProp 𝕄) : sepL ks Φ ⊣⊢ iprop(sepL ksA Φ ∗ sepL ksB Φ) := sepL_append ksA ksB Φ

/-! ## The reduced rows, lent to the transfers -/

theorem red_shares (c : Dev nD) (f : (cc0_scratch2 : Ref sig .tc).ty.Contents (Elt F)) (l : List (Fin 32)) :
    ∀ n, l.map Fin.val = List.range' (n + 1) l.length →
      (redPts c (left n) f : sProp 𝕄) ⊣⊢ iprop(redPts c (left (n + l.length)) f ∗ sepL l fun k => redPts c (lent k) f) := by
  induction l with
  | nil => intro n _; exact (sep_emp (PROP := sProp 𝕄)).symm
  | cons k l ih =>
    intro n h
    rw [List.map_cons, List.length_cons, List.range'_succ, List.cons.injEq] at h
    have hs : (redPts c (left n) f : sProp 𝕄) ⊣⊢ iprop(redPts c (left (n + 1)) f ∗ redPts c (lent k) f) := by
      unfold redPts
      rw [show lent k = (left n).right from by unfold lent; rw [h.1]; rfl]
      exact pointsTo_share (PosShare.mem_left_op_right _)
    have hi := ih (n + 1) h.2
    rw [show n + 1 + l.length = n + (k :: l).length from by rw [List.length_cons]; omega] at hi
    rw [sepL_cons]
    constructor
    · iintro H
      ihave H1 := hs.1 $$ H
      icases H1 with ⟨H1, H2⟩
      ihave H3 := hi.1 $$ H1
      icases H3 with ⟨H3, H4⟩
      isplitl [H3]; · iexact H3
      isplitl [H2] <;> iassumption
    · iintro ⟨H3, H2, H4⟩
      iapply hs.2
      isplitl [H3 H4]
      · iapply hi.2; isplitl [H3] <;> iassumption
      iexact H2

theorem red_lent (c : Dev nD) (f : (cc0_scratch2 : Ref sig .tc).ty.Contents (Elt F)) :
    (whole c cc0_scratch2 f : sProp 𝕄) ⊣⊢ iprop(redPts c (left 31) f ∗ sepL ks fun k => redPts c (lent k) f) := by
  have h := red_shares c f ks 0 (by decide)
  have hw : (redPts c (left 0) f : sProp 𝕄) = whole c cc0_scratch2 f := by unfold redPts whole; rw [show (dM).view.set = Finset.univ from View.set_whole _]; rfl
  rw [hw] at h
  exact h

/-! ## What the barrier hands over -/

theorem barPay_peer (c : Dev nD) (k : Fin 32) :
    (barPay (peer c k) k : sProp 𝕄) = iprop((∃ f, slotPts c k f) ∗ ∃ f, rowsPts c (peer c k) f) := by unfold barPay; rw [peer_peer]

theorem rest_bar (c : Dev nD) : bigSep ((rd (F := F) m).duties (bar c) 0 \ ∅) (fun d => (rd (F := F) m).payload (bar c) 0 d) = sepL ks (barPay c) := by
  rw [Finset.sdiff_empty, duties_bar, ← sepL_ks]; rfl

end Cert.RopeRun
-- ==== Proof.Body.lean ====
/-
The kernel's body on a device, from what the launch gives it to the result in its staging buffer.
-/
module

public import proofs.«01_k».proof.Proof.Split
public import proofs.«01_k».proof.Proof.Gen.KernelIdeal.Launch

@[expose] public section

noncomputable section

namespace Cert.RopeRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device starts from -/

/-- Its positions on one array's cells. -/
def posA (c : Dev nD) (a : Fin 4) : sProp 𝕄 := bigSep Finset.univ fun k : Fin 32 => atPos ER (cell c a k) 0 ∅ 0

/-- The tokens of the duties it pays. -/
def payToks (c : Dev nD) : sProp 𝕄 :=
  iprop((sepL ks fun k => dutyTok ER (bar (peer c k)) 0 k)
    ∗ (sepL ks fun k => dutyTok ER (cell c 0 k) 0 0) ∗ (sepL ks fun k => dutyTok ER (cell (peer c k) 1 k) 0 0)
    ∗ (sepL ks fun k => dutyTok ER (cell c 2 k) 0 0) ∗ sepL ks fun k => dutyTok ER (cell (peer c k) 3 k) 0 0)

def linear (c : Dev nD) : sProp 𝕄 :=
  iprop(atPos ER (bar c) 0 ∅ 0 ∗ (posA c 0 ∗ posA c 1 ∗ posA c 2 ∗ posA c 3) ∗ payToks c)

/-- Its credit: the barrier's units and both phases' arrivals. -/
def creds (c : Dev nD) : sProp 𝕄 :=
  iprop(cred (tallyAt (bar c) () 31) ∗ (sepL ks fun k => cred (tallyAt (cell c 1 k) () N)) ∗ sepL ks fun k => cred (tallyAt (cell c 3 k) () N))

/-- The kernel's scratch buffers, holding anything. -/
def scratch (c : Dev nD) : sProp 𝕄 :=
  iprop((∃ f, whole c cc0_scratch0 f) ∗ (∃ f, whole c cc0_scratch1 f) ∗ ∃ f, whole c cc0_scratch2 f)

def start (c : Dev nD) : sProp 𝕄 := iprop((∃ K, records m K ∗ linear c) ∗ creds c ∗ levAts L lv)

def Φ₀ (c : Dev nD) : sProp 𝕄 := iprop(start m c ∗ scratch c)

/-- The cells of one array, closed, their counters at zero. -/
def zeroA (c : Dev nD) (a : Fin 4) : sProp 𝕄 := bigSep Finset.univ fun k : Fin 32 => semVal (cell c a k) 0

def Φ₁ (c : Dev nD) : sProp 𝕄 := iprop(scratch c ∗ (zeroA c 0 ∗ zeroA c 1 ∗ zeroA c 2 ∗ zeroA c 3) ∗ semVal (bar c) 0)

/-! ## The program in parts -/

section
variable (K : Dev nD × CIx → ℕ)

/-- The cell numbered 0 has no duty: it closes at once. -/
theorem close_zero (c : Dev nD) (a : Fin 4) : iprop(records m K ∗ atPos ER (cell c a 0) 0 ∅ 0) ⊢ iprop(|={Set.univ}=> semVal (cell c a 0) 0) := by
  iintro ⟨#HR, Hat⟩
  iapply (Rounds.cell_close ER (rd m) (Set.mem_univ (K (c, some (a, 0)))) (fun h => h) (R := 0) (fun r _ => duties_cell_zero m c a r))
  isplitr; · iapply (records_inv m K (c, some (a, 0))); iexact HR
  iexact Hat

/-- Positions on one array's cells: the unused cell's counter, and the rest. -/
theorem open_pos (c : Dev nD) (a : Fin 4) :
    iprop(records m K ∗ posA c a) ⊢ iprop(|={Set.univ}=> (semVal (cell c a 0) 0 ∗ sepL ks fun k => atPos ER (cell c a k) 0 ∅ 0)) := by
  unfold posA
  rw [bigSep_peers fun k : Fin 32 => atPos ER (cell c a k) 0 ∅ 0]
  iintro ⟨#HR, H0, Hs⟩
  imod (close_zero m K c a) $$ [H0] with Hz
  · isplitr; · iexact HR
    iexact H0
  imodintro
  isplitl [Hz] <;> iassumption

/-- The barrier: a unit to every peer with the right to write here, and theirs in return. -/
theorem barrier_run (c : Dev nD) (rest : TcProg F) (Q : PUnit → sProp 𝕄) :
    iprop(records m K ∗ levAts L lv ∗ owesX c (O₀ c) ∗ cred (tallyAt (bar c) () 31) ∗ atPos ER (bar c) 0 ∅ 0 ∗ (sepL ks fun k => dutyTok ER (bar (peer c k)) 0 k)
        ∗ (sepL ks fun k => iprop(∃ f, slotPts c k f)) ∗ sepL ks fun k => iprop(∃ f, rowsPts c (peer c k) f))
      ⊢ iprop(((owesX c (O₁ c) ∗ semVal (bar c) 0 ∗ (sepL ks fun k => iprop(∃ f, slotPts (peer c k) k f)) ∗ sepL ks fun k => iprop(∃ f, rowsPts (peer c k) c f))
          -∗ wpc c rest Q) -∗ wpc c (signals c ks (.op (.semWait barS ((31 : ℕ) : ℤ)) fun _ => rest)) Q) := by
  iintro ⟨#HR, #Hlev, HO, Hc, Hat, Htok, Hsl, Hrow⟩ Hk
  iapply (signals_run m K c (O₁ c) _ Q ks ks_ne) $$ [HO Htok Hsl Hrow]
  · isplitr; · iexact HR
    isplitl [HO]; · iexact HO
    iapply (sepL_sep _ _ _).2
    isplitl [Htok]; · iexact Htok
    simp only [barPay_peer]
    iapply (sepL_sep _ _ _).2
    isplitl [Hsl] <;> iassumption
  iintro HO
  unfold owesX
  icases HO with ⟨%W, HO⟩
  iapply (Rounds.wp_wait_rest_token 𝒱₀ ER (rd m) (c : Thread nD τ) none (κ := K (c, none))
      (wpE_semWait_eq 𝒱₀ (c : Thread nD τ) none Set.univ) (Set.mem_univ _) () (O := O₁ c) (W := W) (R := 0) (m := 0) (T := ∅)
      (by rw [expect_bar])) $$ [Hc HO Hat]
  · isplitr; · iapply (records_inv m K (c, none)); iexact HR
    isplitl [Hc]; · iexact Hc
    isplitl [HO]; · iexact HO
    isplitr; · iapply (mayWait c (.reg barS) 1 (O₁ c) (le_refl 1) (above_O₁ c)); iexact Hlev
    iexact Hat
  iintro ⟨HO, Hat, -, Hpay⟩
  ihave Hp := (Entails.of_eq (rest_bar m c)) $$ Hpay
  imod (Rounds.cell_close ER (rd m) (Set.mem_univ (K (c, none))) (fun h => h) (R := 0 + 1) (duties_later m (bar c))) $$ [Hat] with Hz
  · isplitr; · iapply (records_inv m K (c, none)); iexact HR
    iexact Hat
  unfold barPay
  ihave Hp := (sepL_sep _ _ _).1 $$ Hp
  icases Hp with ⟨Hsl, Hrow⟩
  iapply Hk
  isplitl [HO]; · iexists _; iexact HO
  isplitl [Hz]; · iexact Hz
  isplitl [Hsl] <;> iassumption

/-- The last part: the own rows stored, the all-gather, and the transfers drained. -/
theorem tail_run (c : Dev nD) (fo : (cc0_stg5_0 : Ref sig .tc).ty.Contents (Elt F)) (fd : (cc0_scratch2 : Ref sig .tc).ty.Contents (Elt F)) (Q : PUnit → sProp 𝕄) :
    iprop(records m K ∗ levAts L lv ∗ owesX c (O₂ c) ∗ rowsPts c c fo ∗ whole c cc0_scratch2 fd
        ∗ (sepL ks fun k => iprop(∃ f, rowsPts (peer c k) c f)) ∗ (sepL ks fun k => dutyTok ER (cell c 2 k) 0 0) ∗ (sepL ks fun k => dutyTok ER (cell (peer c k) 3 k) 0 0)
        ∗ ((sepL ks fun k => cred (tallyAt (cell c 0 k) () N)) ∗ sepL ks fun k => cred (tallyAt (cell c 3 k) () N))
        ∗ ((sepL ks fun k => atPos ER (cell c 0 k) 0 ∅ 0) ∗ (sepL ks fun k => atPos ER (cell c 2 k) 0 ∅ 0) ∗ sepL ks fun k => atPos ER (cell c 3 k) 0 ∅ 0))
      ⊢ iprop(((owesX c 0 ∗ whole c cc0_stg5_0 (outC m) ∗ whole c cc0_scratch2 (redC m c) ∗ (sepL ks fun k => chunkPts c k (part m c))
            ∗ (sepL ks fun k => semVal (cell c 0 k) 0) ∗ (sepL ks fun k => semVal (cell c 2 k) 0) ∗ (sepL ks fun k => semVal (cell c 3 k) 0))
          -∗ Q ⟨⟩) -∗ wpc c (tailProg c (total m c)) Q) := by
  have h0 : ∀ (a : Fin 4) (k : Fin 32), (levAts L lv : sProp 𝕄) ⊢ MayWait (c : Thread nD τ) (.dma (semA a k)) () 0 := fun a k => by
    rw [MayWait_zero]; iintro -; iempintro
  unfold tailProg
  iintro ⟨#HR, #Hlev, HO, Hown, Hred, Hrows, Ht2, Ht3, ⟨Hc0, Hc3⟩, Hp0, Hp2, Hp3⟩ Hk
  unfold rowsPts
  iapply (wp_load 𝒱₀ (c : Thread nD τ) none Set.univ (m := oM) ((load_sub oM (ownR c)).trans (own_set c).subset)) $$ Hown; iintro Hown
  iapply (wp_store 𝒱₀ (c : Thread nD τ) none Set.univ (m := oM) (r := ownR c) (Mk := Finset.univ) (own_set c).subset) $$ Hown; iintro Hown
  unfold whole
  iapply (wp_load 𝒱₀ (c : Thread nD τ) none Set.univ (m := dM) (Finset.subset_univ _)) $$ Hred; iintro Hred
  iapply (wp_store 𝒱₀ (c : Thread nD τ) none Set.univ (m := dM) (r := redR) (Mk := Finset.univ) (Finset.subset_univ _)) $$ Hred; iintro Hred
  have hred : (dM.access redR).write (Elt F) fd (shapeCast S16x768 (truncf .bf16 (total m c) bitsLt_bf16_f32) shapeCasts_S16x768_S16x768) Finset.univ = redC m c := by
    rw [shapeCast_self]
    exact Memref.write_access_unit_zero_univ (Elt F) cc0_scratch2 (funext fun a => by fin_cases a <;> rfl) _ fd (redV m c)
  rw [hred]
  ihave Hred := (red_lent c (redC m c)).1 $$ Hred
  icases Hred with ⟨Hkeep, Hlent⟩
  iapply (sends2_run m K c 0 _ Q ks ks_ne) $$ [HO Hlent Hrows Ht2 Ht3]
  · isplitr; · iexact HR
    isplitl [HO]; · iexact HO
    iapply (sepL_sep _ _ _).2
    isplitl [Hlent]; · iexact Hlent
    iapply (sepL_sep _ _ _).2
    isplitl [Hrows]; · iexact Hrows
    iapply (sepL_sep _ _ _).2
    isplitl [Ht2] <;> iassumption
  iintro ⟨HO, Hc2⟩
  iapply (awaits_run m K c 3 0 (h0 3) (recvs2 c) (fun k => .waitDma2 (recv2 k) dM (outRows c) red_wx (outRows_wx c))
    (fun k => wpE_waitDma2_eq 𝒱₀ (c : Thread nD τ) none Set.univ) (fun _ => rfl) (fun _ _ _ => rfl) _ Q ks ks_ne) $$ [HO Hc3 Hp3]
  · isplitr; · iexact HR
    isplitr; · iexact Hlev
    isplitl [HO]; · iexact HO
    iapply (sepL_sep _ _ _).2
    isplitl [Hc3] <;> iassumption
  iintro ⟨HO, Hz3, Hrecv⟩
  iapply (awaits_run m K c 0 0 (h0 0) (drains1 c) (fun k => .waitDma2 (send1 k) (slot k) (chunk c k) (slot_wx k) (chunk_wx c k))
    (fun k => wpE_waitDma2_eq 𝒱₀ (c : Thread nD τ) none Set.univ) (fun _ => rfl) (fun _ _ _ => rfl) _ Q ks ks_ne) $$ [HO Hc0 Hp0]
  · isplitr; · iexact HR
    isplitr; · iexact Hlev
    isplitl [HO]; · iexact HO
    iapply (sepL_sep _ _ _).2
    isplitl [Hc0] <;> iassumption
  iintro ⟨HO, Hz0, Hchunks⟩
  iapply (awaits_run m K c 2 0 (h0 2) (drains2 c) (fun k => .waitDma2 (send2 k) (outRows c) dM (outRows_wx c) red_wx)
    (fun k => wpE_waitDma2_eq 𝒱₀ (c : Thread nD τ) none Set.univ) (fun _ => rfl) (fun _ _ _ => rfl) _ Q ks ks_ne) $$ [HO Hc2 Hp2]
  · isplitr; · iexact HR
    isplitr; · iexact Hlev
    isplitl [HO]; · iexact HO
    iapply (sepL_sep _ _ _).2
    isplitl [Hc2] <;> iassumption
  iintro ⟨HO, Hz2, Hback⟩
  unfold wpc; rw [wp_ret]; imodintro
  iapply Hk
  isplitl [HO]; · iexact HO
  isplitl [Hown Hrecv]
  · iapply (rows_join m c fo)
    isplitl [Hown]; · unfold rowsPts redV; iexact Hown
    iexact Hrecv
  isplitl [Hkeep Hback]
  · iapply (red_lent c (redC m c)).2
    isplitl [Hkeep]; · iexact Hkeep
    iexact Hback
  isplitl [Hchunks]; · iexact Hchunks
  isplitl [Hz0]; · iexact Hz0
  isplitl [Hz2] <;> iassumption

/-- The middle part: both halves computed, stored and sent, then the own rows summed with the peers'. -/
theorem compute_run (c : Dev nD) (f : (cc0_scratch0 : Ref sig .tc).ty.Contents (Elt F)) (rest : FVec F S16x768 .f32 → TcProg F) (Q : PUnit → sProp 𝕄) :
    iprop(records m K ∗ levAts L lv ∗ owesX c (O₁ c) ∗ whole c cc0_stg0_0 (xstg m c) ∗ whole c cc0_scratch0 f
        ∗ ((sepL ks fun k => iprop(∃ f, slotPts (peer c k) k f)) ∗ (sepL ks fun k => dutyTok ER (cell c 0 k) 0 0) ∗ (sepL ks fun k => dutyTok ER (cell (peer c k) 1 k) 0 0))
        ∗ (sepL ks fun k => cred (tallyAt (cell c 1 k) () N)) ∗ (sepL ks fun k => atPos ER (cell c 1 k) 0 ∅ 0))
      ⊢ iprop(((owesX c (O₂ c) ∗ whole c cc0_stg0_0 (xstg m c) ∗ chunkPts c 0 (part m c) ∗ (sepL ks fun k => cred (tallyAt (cell c 0 k) () N))
            ∗ (sepL ks fun k => semVal (cell c 1 k) 0) ∗ (sepL ks fun k => iprop(∃ f, slotPts c k f)))
          -∗ wpc c (rest (total m c)) Q)
        -∗ wpc c (.op (.load xM (xRect (k0_off1 c) (k0_off1_inb c)).toLoadRect (View.loadsAt_vmem h_S1x256x768)) fun (x0 : Vec F S1x256x768 .bf16) =>
            .op (.load pM (half0 c).toLoadRect (View.loadsAt_vmem h_S256x768)) fun _ =>
            .op (.store pM (half0 c) (halfOut x0 (wqstg m c) (wkstg m c) (wvstg m c) (wostg m c)) Finset.univ
              (View.stores_vmem h_S256x768 ((Memref.isWhole_whole cc0_scratch0).storeExact_slice rfl _ (k0_off2_packedbf16 c)) (fun _ => rfl)) (.inl rfl)) fun _ =>
            sends1 c ksA <|
            .op (.load xM (xRect (k0_off4 c) (k0_off4_inb c)).toLoadRect (View.loadsAt_vmem h_S1x256x768)) fun (x1 : Vec F S1x256x768 .bf16) =>
            .op (.load pM (half1 c).toLoadRect (View.loadsAt_vmem h_S256x768)) fun _ =>
            .op (.store pM (half1 c) (halfOut x1 (wqstg m c) (wkstg m c) (wvstg m c) (wostg m c)) Finset.univ
              (View.stores_vmem h_S256x768 ((Memref.isWhole_whole cc0_scratch0).storeExact_slice rfl _ (k0_off5_packedbf16 c)) (fun _ => rfl)) (.inl rfl)) fun _ =>
            sends1 c ksB <|
            .op (.load pM (ownR c).toLoadRect (View.loadsAt_vmem h_S16x768)) fun (own : Vec F S16x768 .bf16) =>
            recvs1 c ks (extf .f32 own bitsLt_bf16_f32) rest) Q) := by
  rw [show O₁ c = owed (recv1Debt c) ksA (owed (recv1Debt c) ksB (O₂ c)) from owed_append _ _ _ _]
  iintro ⟨#HR, #Hlev, HO, Hx, Hpart, ⟨Hsl, Ht0, Ht1⟩, Hc1, Hp1⟩ Hk
  ihave Hpart := (halves_split c f) $$ Hpart
  icases Hpart with ⟨Hh0, Hh1⟩
  ihave Hsl := (sepL_halves _).1 $$ Hsl
  icases Hsl with ⟨HslA, HslB⟩
  ihave Ht0 := (sepL_halves _).1 $$ Ht0
  icases Ht0 with ⟨Ht0A, Ht0B⟩
  ihave Ht1 := (sepL_halves _).1 $$ Ht1
  icases Ht1 with ⟨Ht1A, Ht1B⟩
  unfold whole
  -- the first half
  iapply (wp_load 𝒱₀ (c : Thread nD τ) none Set.univ (m := xM) (Finset.subset_univ _)) $$ Hx; iintro Hx
  iapply (wp_load 𝒱₀ (c : Thread nD τ) none Set.univ (m := pM) (load_sub pM (half0 c))) $$ Hh0; iintro Hh0
  iapply (wp_store 𝒱₀ (c : Thread nD τ) none Set.univ (m := pM) (r := half0 c) (Mk := Finset.univ) (S := half0Set c) (f := f) (Finset.Subset.refl (half0Set c))) $$ Hh0; iintro Hh0
  have hs0 := half0_split m c f
  unfold stored0 first at hs0
  ihave Hh0 := hs0 $$ Hh0
  icases Hh0 with ⟨Hown, HchA⟩
  iapply (sends1_run m K c (owed (recv1Debt c) ksB (O₂ c)) _ Q ksA ksA_ne) $$ [HO HchA HslA Ht0A Ht1A]
  · isplitr; · iexact HR
    isplitl [HO]; · iexact HO
    iapply (sepL_sep _ _ _).2
    isplitl [HchA]; · iexact HchA
    iapply (sepL_sep _ _ _).2
    isplitl [HslA]; · iexact HslA
    iapply (sepL_sep _ _ _).2
    isplitl [Ht0A] <;> iassumption
  iintro ⟨HO, HcA⟩
  -- the second
  iapply (wp_load 𝒱₀ (c : Thread nD τ) none Set.univ (m := xM) (Finset.subset_univ _)) $$ Hx; iintro Hx
  iapply (wp_load 𝒱₀ (c : Thread nD τ) none Set.univ (m := pM) (load_sub pM (half1 c))) $$ Hh1; iintro Hh1
  iapply (wp_store 𝒱₀ (c : Thread nD τ) none Set.univ (m := pM) (r := half1 c) (Mk := Finset.univ) (S := half1Set c) (f := f) (Finset.Subset.refl (half1Set c))) $$ Hh1; iintro Hh1
  have hs1 := half1_split m c f
  unfold stored1 second at hs1
  ihave HchB := hs1 $$ Hh1
  iapply (sends1_run m K c (O₂ c) _ Q ksB ksB_ne) $$ [HO HchB HslB Ht0B Ht1B]
  · isplitr; · iexact HR
    isplitl [HO]; · iexact HO
    iapply (sepL_sep _ _ _).2
    isplitl [HchB]; · iexact HchB
    iapply (sepL_sep _ _ _).2
    isplitl [HslB]; · iexact HslB
    iapply (sepL_sep _ _ _).2
    isplitl [Ht0B] <;> iassumption
  iintro ⟨HO, HcB⟩
  -- the sum
  unfold chunkPts
  iapply (wp_load 𝒱₀ (c : Thread nD τ) none Set.univ (m := pM) (own_sub_chunk c)) $$ Hown; iintro Hown
  iapply (recvs1_run m K c (O₂ c) (fun k => mayWait c _ 2 (O₂ c) (le_of_eq (lv_recv1 c k)) (above_O₂ c)) rest Q ks ks_ne
    (extf .f32 (kept m c) bitsLt_bf16_f32)) $$ [HO Hc1 Hp1]
  · isplitr; · iexact HR
    isplitr; · iexact Hlev
    isplitl [HO]; · iexact HO
    iapply (sepL_sep _ _ _).2
    isplitl [Hc1] <;> iassumption
  iintro ⟨HO, Hz1, Hslots⟩
  iapply Hk
  isplitl [HO]; · iexact HO
  isplitl [Hx]; · iexact Hx
  isplitl [Hown]; · iexact Hown
  isplitl [HcA HcB]
  · iapply (sepL_halves _).2
    isplitl [HcA] <;> iassumption
  isplitl [Hz1] <;> iassumption

end

/-! ## The body -/

abbrev t₀ : Fin cfg0.N := t0_0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wqstg m c
    | ⟨2, _⟩ => wkstg m c
    | ⟨3, _⟩ => wvstg m c
    | ⟨4, _⟩ => wostg m c
    | ⟨5, _⟩ => outC m
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_in (w : Fin cfg0.W) (hw : w ≠ (5 : Fin 6)) (t : Fin cfg0.N) : (cfg0.win w).fetch t = true := by
  revert hw t; revert w; decide

theorem body_run (K : Dev nD × CIx → ℕ) (c : Dev nD) (fo : (cc0_stg5_0 : Ref sig .tc).ty.Contents (Elt F)) (Q : PUnit → sProp 𝕄) :
    iprop((records m K ∗ linear c) ∗ (creds c ∗ levAts L lv) ∗ scratch c ∗ owesX c (O₀ c)
        ∗ whole c cc0_stg0_0 (xstg m c) ∗ whole c cc0_stg1_0 (wqstg m c) ∗ whole c cc0_stg2_0 (wkstg m c) ∗ whole c cc0_stg3_0 (wvstg m c)
        ∗ whole c cc0_stg4_0 (wostg m c) ∗ whole c cc0_stg5_0 fo)
      ⊢ iprop(((Φ₁ c ∗ owesX c 0 ∗ whole c cc0_stg0_0 (xstg m c) ∗ whole c cc0_stg1_0 (wqstg m c) ∗ whole c cc0_stg2_0 (wkstg m c) ∗ whole c cc0_stg3_0 (wvstg m c)
        ∗ whole c cc0_stg4_0 (wostg m c) ∗ whole c cc0_stg5_0 (outC m)) -∗ Q ⟨⟩) -∗ wpc c (prog c) Q) := by
  unfold linear payToks creds scratch
  iintro ⟨⟨#HR, HaB, ⟨Hp0, Hp1, Hp2, Hp3⟩, HtB, Ht0, Ht1, Ht2, Ht3⟩, ⟨⟨HcB, Hc1, Hc3⟩, #Hlev⟩, ⟨⟨%f0, Hs0⟩, ⟨%f1, Hs1⟩, ⟨%f2, Hs2⟩⟩, HO, Hx, Hq, Hkk, Hv, Ho, Hout⟩ Hk
  imod (open_pos m K c 0) $$ [Hp0] with ⟨Hz0, Hp0⟩
  · isplitr; · iexact HR
    iexact Hp0
  imod (open_pos m K c 1) $$ [Hp1] with ⟨Hz1, Hp1⟩
  · isplitr; · iexact HR
    iexact Hp1
  imod (open_pos m K c 2) $$ [Hp2] with ⟨Hz2, Hp2⟩
  · isplitr; · iexact HR
    iexact Hp2
  imod (open_pos m K c 3) $$ [Hp3] with ⟨Hz3, Hp3⟩
  · isplitr; · iexact HR
    iexact Hp3
  ihave Hs1 := (slots_split c f1) $$ Hs1
  icases Hs1 with ⟨Hsl0, Hsl⟩
  ihave Hout := (rows_split c fo) $$ Hout
  icases Hout with ⟨Hown, Hrow⟩
  unfold prog
  iapply (barrier_run m K c _ Q) $$ [HO HcB HaB HtB Hsl Hrow]
  · isplitr; · iexact HR
    isplitr; · iexact Hlev
    isplitl [HO]; · iexact HO
    isplitl [HcB]; · iexact HcB
    isplitl [HaB]; · iexact HaB
    isplitl [HtB]; · iexact HtB
    isplitl [Hsl] <;> iassumption
  iintro ⟨HO, HzB, Hsl, Hrow⟩
  have hz : (![0, 0] : Fin 2 → Nat) = fun _ => 0 := funext fun a => by fin_cases a <;> rfl
  unfold whole
  iapply (wp_load 𝒱₀ (c : Thread nD τ) none Set.univ (m := wqM) (Finset.subset_univ _)) $$ Hq; iintro Hq
  rw [show (wqM : Memref sig .tc .vmem S768x256 .bf16).view.readAt (Elt F) wRect.toLoadRect (wqstg m c) = wqstg m c from Memref.readAt_unit_zero (Elt F) cc0_stg1_0 hz _ _]
  iapply (wp_load 𝒱₀ (c : Thread nD τ) none Set.univ (m := wkM) (Finset.subset_univ _)) $$ Hkk; iintro Hkk
  rw [show (wkM : Memref sig .tc .vmem S768x256 .bf16).view.readAt (Elt F) wRect.toLoadRect (wkstg m c) = wkstg m c from Memref.readAt_unit_zero (Elt F) cc0_stg2_0 hz _ _]
  iapply (wp_load 𝒱₀ (c : Thread nD τ) none Set.univ (m := wvM) (Finset.subset_univ _)) $$ Hv; iintro Hv
  rw [show (wvM : Memref sig .tc .vmem S768x256 .bf16).view.readAt (Elt F) wRect.toLoadRect (wvstg m c) = wvstg m c from Memref.readAt_unit_zero (Elt F) cc0_stg3_0 hz _ _]
  iapply (wp_load 𝒱₀ (c : Thread nD τ) none Set.univ (m := woM) (Finset.subset_univ _)) $$ Ho; iintro Ho
  rw [show (woM : Memref sig .tc .vmem S256x768 .bf16).view.readAt (Elt F) woRect.toLoadRect (wostg m c) = wostg m c from Memref.readAt_unit_zero (Elt F) cc0_stg4_0 hz _ _]
  iapply (compute_run m K c f0 (tailProg c) Q) $$ [HO Hx Hs0 Hsl Ht0 Ht1 Hc1 Hp1]
  · isplitr; · iexact HR
    isplitr; · iexact Hlev
    isplitl [HO]; · iexact HO
    isplitl [Hx]; · iexact Hx
    isplitl [Hs0]; · iexact Hs0
    isplitl [Hsl Ht0 Ht1]
    · isplitl [Hsl]; · iexact Hsl
      isplitl [Ht0] <;> iassumption
    isplitl [Hc1] <;> iassumption
  iintro ⟨HO, Hx, Hch0, Hc0, Hzs1, Hslots⟩
  iapply (tail_run m K c fo f2 Q) $$ [HO Hown Hs2 Hrow Ht2 Ht3 Hc0 Hc3 Hp0 Hp2 Hp3]
  · isplitr; · iexact HR
    isplitr; · iexact Hlev
    isplitl [HO]; · iexact HO
    isplitl [Hown]; · iexact Hown
    isplitl [Hs2]; · iexact Hs2
    isplitl [Hrow]; · iexact Hrow
    isplitl [Ht2]; · iexact Ht2
    isplitl [Ht3]; · iexact Ht3
    isplitl [Hc0 Hc3]
    · isplitl [Hc0] <;> iassumption
    isplitl [Hp0]; · iexact Hp0
    isplitl [Hp2] <;> iassumption
  iintro ⟨HO, Hout, Hred, Hchs, Hzs0, Hzs2, Hzs3⟩
  iapply Hk
  isplitl [Hch0 Hchs Hsl0 Hslots Hred Hz0 Hz1 Hz2 Hz3 Hzs0 Hzs1 Hzs2 Hzs3 HzB]
  · unfold Φ₁ scratch zeroA
    isplitl [Hch0 Hchs Hsl0 Hslots Hred]
    · isplitl [Hch0 Hchs]
      · iexists (part m c)
        iapply (chunks_join c (part m c))
        isplitl [Hch0] <;> iassumption
      isplitl [Hsl0 Hslots]
      · iapply (slots_join c f1)
        isplitl [Hsl0] <;> iassumption
      iexists (redC m c); iexact Hred
    isplitr [HzB]
    · simp only [bigSep_peers]
      isplitl [Hz0 Hzs0]; · isplitl [Hz0] <;> iassumption
      isplitl [Hz1 Hzs1]; · isplitl [Hz1] <;> iassumption
      isplitl [Hz2 Hzs2]; · isplitl [Hz2] <;> iassumption
      isplitl [Hz3] <;> iassumption
    iexact HzB
  isplitl [HO]; · iexact HO
  isplitl [Hx]; · iexact Hx
  isplitl [Hq]; · iexact Hq
  isplitl [Hkk]; · iexact Hkk
  isplitl [Hv]; · iexact Hv
  isplitl [Ho]; · iexact Ho
  iexact Hout

end Cert.RopeRun
-- ==== Proof.Launch.lean ====
/-
The launch: what the machine hands the devices, made into what each device's body starts from, and the run it gives.
-/
module

public import proofs.«01_k».proof.Proof.Body
public import Idealize.ShloMosaic.Lib.Pipeline.CollectiveSegs

@[expose] public section

noncomputable section

namespace Cert.RopeRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launch state: any memory, every counter at zero, any random registers. -/
abbrev s₀ : MemSt nD τ sig (Elt F) := ⟨m, fun _ => 0, ρ⟩

/-! ## The body, as the pipeline asks for it -/

def bodyPost (c : Dev nD) : sProp 𝕄 :=
  iprop(Φ₁ c ∗ (dats m 0 c).owesAt () t₀.succ ∗ stg c cc0_stg0_0 (xstg m c) ∗ stg c cc0_stg1_0 (wqstg m c) ∗ stg c cc0_stg2_0 (wkstg m c)
    ∗ stg c cc0_stg3_0 (wvstg m c) ∗ stg c cc0_stg4_0 (wostg m c) ∗ stg c cc0_stg5_0 (outC m))

def bodyPre (c : Dev nD) : sProp 𝕄 :=
  iprop(Φ₀ m c ∗ (dats m 0 c).owesAt () t₀.castSucc
    ∗ (∃ d, stg c cc0_stg0_0 ((dats m 0 c).before (0 : Fin 6) t₀ d)) ∗ (∃ d, stg c cc0_stg1_0 ((dats m 0 c).before (1 : Fin 6) t₀ d))
    ∗ (∃ d, stg c cc0_stg2_0 ((dats m 0 c).before (2 : Fin 6) t₀ d)) ∗ (∃ d, stg c cc0_stg3_0 ((dats m 0 c).before (3 : Fin 6) t₀ d))
    ∗ (∃ d, stg c cc0_stg4_0 ((dats m 0 c).before (4 : Fin 6) t₀ d)) ∗ (∃ d, stg c cc0_stg5_0 ((dats m 0 c).before (5 : Fin 6) t₀ d)))

theorem body_from_pre (c : Dev nD) : bodyPre m c ⊢ wpc c (.op .deviceId prog) (fun _ => bodyPost m c) := by
  unfold bodyPre wpc
  rw [wp_deviceId]
  iintro ⟨HΦ, Ho, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩⟩
  have h0 : g0 = xstg m c := e0.trans (by unfold Dat.before; rw [if_pos (fetch_in 0 (by decide) t₀)]; rfl)
  have h1 : g1 = wqstg m c := e1.trans (by unfold Dat.before; rw [if_pos (fetch_in 1 (by decide) t₀)]; rfl)
  have h2 : g2 = wkstg m c := e2.trans (by unfold Dat.before; rw [if_pos (fetch_in 2 (by decide) t₀)]; rfl)
  have h3 : g3 = wvstg m c := e3.trans (by unfold Dat.before; rw [if_pos (fetch_in 3 (by decide) t₀)]; rfl)
  have h4 : g4 = wostg m c := e4.trans (by unfold Dat.before; rw [if_pos (fetch_in 4 (by decide) t₀)]; rfl)
  clear e0 e1 e2 e3 e4
  subst h0; subst h1; subst h2; subst h3; subst h4
  unfold Φ₀ start Dat.owesAt Pipeline.owesWithin
  icases HΦ with ⟨⟨⟨%K, Hg⟩, Hcr, Hlev⟩, Hscr⟩
  icases Ho with ⟨%W, -, HO⟩
  iapply (body_run m K c g5 (fun _ => bodyPost m c)) $$ [Hg Hcr Hlev Hscr HO H0 H1 H2 H3 H4 H5]
  · isplitl [Hg]; · iexact Hg
    isplitl [Hcr Hlev]
    · isplitl [Hcr] <;> iassumption
    isplitl [Hscr]; · iexact Hscr
    isplitl [HO]; · unfold owesX; iexists W; iexact HO
    isplitl [H0]; · iexact H0
    isplitl [H1]; · iexact H1
    isplitl [H2]; · iexact H2
    isplitl [H3]; · iexact H3
    isplitl [H4] <;> iassumption
  unfold bodyPost Dat.owesAt Pipeline.owesWithin owesX
  iintro ⟨HΦ, ⟨%W', HO⟩, H0, H1, H2, H3, H4, H5⟩
  isplitl [HΦ]; · iexact HΦ
  isplitl [HO]
  · iexists W'; isplitr
    · ipureintro; exact fun _ _ => Or.inl trivial
    iexact HO
  isplitl [H0]; · iexists (xstg m c); isplitr; · ipureintro; rfl
                  iexact H0
  isplitl [H1]; · iexists (wqstg m c); isplitr; · ipureintro; rfl
                  iexact H1
  isplitl [H2]; · iexists (wkstg m c); isplitr; · ipureintro; rfl
                  iexact H2
  isplitl [H3]; · iexists (wvstg m c); isplitr; · ipureintro; rfl
                  iexact H3
  isplitl [H4]; · iexists (wostg m c); isplitr; · ipureintro; rfl
                  iexact H4
  iexists (outC m); isplitr; · ipureintro; rfl
  iexact H5

set_option maxRecDepth 65536 in
theorem body_obligation (c : Dev nD) : BodyObligation (dats (F := F) m 0 c) (defs₀ (F := F)) 𝒱₀ () Set.univ := fun t => by
  rw [fin_N0 t, bigSep_W0, bigSep_W0]
  simp only [owns_whole_eq]
  show bodyPre m c ⊢ wp frame (wpE (defs₀ (F := F)) 𝒱₀ c none) Set.univ
    (cc0_body (F := F) xM (Memref.isWhole_whole _) wqM (Memref.isWhole_whole _) wkM (Memref.isWhole_whole _) wvM (Memref.isWhole_whole _)
        woM (Memref.isWhole_whole _) oM (Memref.isWhole_whole _) pM (Memref.isWhole_whole _) rM (Memref.isWhole_whole _)
        dM (Memref.isWhole_whole _) cc0_scratch3 cc0_scratch4 cc0_scratch5 cc0_scratch6) (fun _ => bodyPost m c)
  rw [body_eq]
  exact body_from_pre m c

/-! ## What the launch mints -/

/-- The kernel's own semaphores: the four arrays. -/
abbrev osem : Fin 4 × Fin 32 → SemLoc sig := fun ak => .dma (semA ak.1 ak.2)

theorem semA_inj {a a' : Fin 4} {k k' : Fin 32} (h : semA a k = semA a' k') : a = a' ∧ k = k' := by
  have hv := congrArg Fin.val h
  rw [semA_val, semA_val] at hv
  have := k.isLt; have := k'.isLt
  exact ⟨Fin.ext (by omega), Fin.ext (by omega)⟩

theorem csem_injective : Function.Injective csem
  | none, none, _ => rfl
  | none, some _, h => by cases h
  | some _, none, h => by cases h
  | some (a, k), some (a', k'), h => by
    have h' : a = a' ∧ k = k' := semA_inj (SemLoc.dma.inj h)
    rw [h'.1, h'.2]

theorem stage_val : ∀ (w : Fin 6) (s : Fin (spec0 w).nbuf), ((spec0 w).sem s).val < 6 := by decide

theorem ownSemFacts : Pipeline.OwnSemFacts cfg0.spec osem where
  isScoped := by decide +kernel
  inj := fun p q h => Option.some.inj (csem_injective h)
  disj := fun ak w s h => by
    have h1 := congrArg Fin.val (SemLoc.dma.inj h)
    have h2 := stage_val w s
    rw [semA_val] at h1
    have h3 : ((cfg0.spec w).sem s).val < 6 := h2
    omega

theorem share_eq (c : Dev nD) (w : Fin cfg0.W) : (dats m 0 c).share w = fullShare := by unfold Dat.share; split <;> rfl

theorem kcell_injective : Function.Injective (kcell : Dev nD × CIx → GSem nD τ sig) := by
  rintro ⟨c, i⟩ ⟨c', i'⟩ h
  have h1 : c = c' := congrArg (fun g : GSem nD τ sig => g.1.1) h
  have h2 : i = i' := csem_injective (congrArg Prod.snd h)
  rw [h1, h2]

theorem bar_eq_iff {c d : Dev nD} : bar c = bar d ↔ c = d := ⟨fun h => congrArg (fun g : GSem nD τ sig => g.1.1) h, fun h => h ▸ rfl⟩
theorem cell_eq_iff {c d : Dev nD} {a a' : Fin 4} {k k' : Fin 32} : cell c a k = cell d a' k' ↔ c = d ∧ a = a' ∧ k = k' :=
  ⟨fun h => ⟨congrArg (fun g : GSem nD τ sig => g.1.1) h, semA_inj (SemLoc.dma.inj (congrArg Prod.snd h))⟩, by rintro ⟨rfl, rfl, rfl⟩; rfl⟩
theorem bar_ne_cell {c d : Dev nD} {a : Fin 4} {k : Fin 32} : bar c ≠ cell d a k := fun h => by cases congrArg Prod.snd h

def ringCells : Finset (GSem nD τ sig) := Finset.univ.map ⟨kcell, kcell_injective⟩

/-- The duties of a device's own cells: one per peer on the barrier's, one on each of the others. -/
abbrev TIx : Type := Fin 32 ⊕ Fin 4 × Fin 32
abbrev tokOf (ct : Dev nD × TIx) : GSem nD τ sig × ℕ × Fin 32 := match ct.2 with
  | .inl k => (bar ct.1, 0, k)
  | .inr ak => (cell ct.1 ak.1 ak.2, 0, 0)
theorem tokOf_injective : Function.Injective (tokOf : Dev nD × TIx → GSem nD τ sig × ℕ × Fin 32) := by
  rintro ⟨c, j⟩ ⟨c', j'⟩ h
  rcases j with k | ⟨a, k⟩ <;> rcases j' with k' | ⟨a', k'⟩
  · have h1 : c = c' := bar_eq_iff.1 (congrArg Prod.fst h)
    have h2 : k = k' := congrArg (fun x : GSem nD τ sig × ℕ × Fin 32 => x.2.2) h
    rw [h1, h2]
  · exact absurd (congrArg Prod.fst h) bar_ne_cell
  · exact absurd (congrArg Prod.fst h).symm bar_ne_cell
  · have h' : c = c' ∧ a = a' ∧ k = k' := cell_eq_iff.1 (congrArg Prod.fst h)
    rw [h'.1, h'.2.1, h'.2.2]
def ringToks : Finset (GSem nD τ sig × ℕ × Fin 32) := Finset.univ.map ⟨tokOf, tokOf_injective⟩

def u₀ : UU :=
  (initOf (Pipeline.cells cfgs cellOf_inj) (Pipeline.launchToks cfgs cellOf_inj), initOf ringCells ringToks)

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- A family over the four arrays, array by array. -/
theorem bigSep_arrays (Φ : Fin 4 × Fin 32 → sProp 𝕄) :
    bigSep Finset.univ Φ = iprop(bigSep Finset.univ (fun k => Φ (0, k)) ∗ bigSep Finset.univ (fun k => Φ (1, k)) ∗ bigSep Finset.univ (fun k => Φ (2, k)) ∗ bigSep Finset.univ fun k => Φ (3, k)) := by
  rw [bigSep_univ_prod, bigSep_fin4]

/-- A family over a device's cells: the barrier's, then array by array. -/
theorem bigSep_cix (Φ : CIx → sProp 𝕄) :
    bigSep Finset.univ Φ = iprop(Φ none ∗ bigSep Finset.univ fun ak => Φ (some ak)) := by
  rw [bigSep_univ_at Φ none, show (Finset.univ : Finset CIx).erase none = Finset.univ.map Function.Embedding.some by
    ext i; cases i <;> simp, bigSep_map]
  rfl

/-- The tokens of device `c`'s own cells. -/
def toks (c : Dev nD) : sProp 𝕄 :=
  iprop(bigSep Finset.univ (fun k => dutyTok ER (bar c) 0 k) ∗ bigSep Finset.univ (fun k => dutyTok ER (cell c 0 k) 0 0) ∗ bigSep Finset.univ (fun k => dutyTok ER (cell c 1 k) 0 0)
    ∗ bigSep Finset.univ (fun k => dutyTok ER (cell c 2 k) 0 0) ∗ bigSep Finset.univ fun k => dutyTok ER (cell c 3 k) 0 0)

/-- What a device gets of the minted state, -/
def G (c : Dev nD) : sProp 𝕄 :=
  iprop((bigSep Finset.univ fun i : CIx => roundState ER (rd m) (kcell (c, i)) 0)
    ∗ (bigSep Finset.univ fun i : CIx => iprop(atPos ER (kcell (c, i)) 0 ∅ 0 ∗ reached ER (kcell (c, i)) 0)) ∗ toks c)

/-- and what it has once the cells are shared. -/
def G' (c : Dev nD) : sProp 𝕄 := iprop(∃ K, records m K ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CIx => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks; rw [bigSep_univ_sum, bigSep_arrays]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The one semaphore outside the kernel's own is the barrier's. -/
theorem unscopedSems0_eq (c : Dev nD) : (unscopedSems0 c : sProp 𝕄) = semVal (bar c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
  rw [unscopedSems0_eq, bigSep_cix]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (rd m) κ (kcell (c, i))))
          ∗ (bigSep Finset.univ fun i : CIx => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CIx => semVal (kcell (c, i)) 0) ∗ bigSep Finset.univ fun i : CIx => roundState ER (rd m) (kcell (c, i)) 0)
      ⊢ (|={Set.univ}=> bigSep Finset.univ fun i : CIx => iprop(∃ κ : ℕ, cellInv ER (rd m) κ (kcell (c, i))) : sProp 𝕄) from by
        rw [← bigSep_sep']
        exact (bigSep_mono fun i _ => (Rounds.body_intro ER (rd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to who pays -/

/-- The peers' entries of a family over an array. -/
theorem own_deal (Φ : Fin 32 → sProp 𝕄) : bigSep Finset.univ Φ ⊢ sepL ks Φ := by
  rw [bigSep_peers]; exact sep_elim_right (PROP := sProp 𝕄)

theorem swap_deal (Φ : Dev nD → Fin 32 → sProp 𝕄) :
    (bigSep Finset.univ fun c : Dev nD => bigSep Finset.univ (Φ c)) = bigSep Finset.univ fun k : Fin 32 => bigSep Finset.univ fun c : Dev nD => Φ c k := by
  rw [← bigSep_univ_prod (fun ck : Dev nD × Fin 32 => Φ ck.1 ck.2), bigSep_univ_equiv (Equiv.prodComm (Fin 32) (Dev nD)), bigSep_univ_prod]
  rfl

theorem all_deal (Φ : Dev nD → Fin 32 → sProp 𝕄) :
    (bigSep Finset.univ fun c : Dev nD => bigSep Finset.univ (Φ c)) ⊢ bigSep Finset.univ fun c : Dev nD => sepL ks (Φ c) :=
  bigSep_mono fun c _ => own_deal (Φ c)

/-- A family over devices and peer numbers, entry `k` of each device handed to its peer `k`. -/
theorem peer_deal (Φ : Dev nD → Fin 32 → sProp 𝕄) :
    (bigSep Finset.univ fun c : Dev nD => bigSep Finset.univ (Φ c)) ⊢ bigSep Finset.univ fun c : Dev nD => sepL ks fun k => Φ (peer c k) k := by
  rw [swap_deal, bigSep_congr (s := Finset.univ) (fun (k : Fin 32) _ => bigSep_univ_equiv (peerEquiv k) (fun c => Φ c k)), show (bigSep Finset.univ fun k : Fin 32 => bigSep Finset.univ fun c : Dev nD => Φ (peerEquiv k c) k) = _ from
    (swap_deal fun c k => Φ (peer c k) k).symm]
  exact bigSep_mono fun c _ => own_deal fun k => Φ (peer c k) k

theorem toks_deal : (bigSep Finset.univ fun c : Dev nD => (toks c : sProp 𝕄)) ⊢ bigSep Finset.univ fun c : Dev nD => payToks c := by
  unfold toks payToks
  simp only [bigSep_sep']
  iintro ⟨H1, H2, H3, H4, H5⟩
  isplitl [H1]; · iapply (peer_deal fun c k => (dutyTok ER (bar c) 0 k : sProp 𝕄)); iexact H1
  isplitl [H2]; · iapply (all_deal fun c k => (dutyTok ER (cell c 0 k) 0 0 : sProp 𝕄)); iexact H2
  isplitl [H3]; · iapply (peer_deal fun c k => (dutyTok ER (cell c 1 k) 0 0 : sProp 𝕄)); iexact H3
  isplitl [H4]; · iapply (all_deal fun c k => (dutyTok ER (cell c 2 k) 0 0 : sProp 𝕄)); iexact H4
  iapply (peer_deal fun c k => (dutyTok ER (cell c 3 k) 0 0 : sProp 𝕄)); iexact H5

theorem linear_eq (c : Dev nD) : (linear c : sProp 𝕄) = iprop((bigSep Finset.univ fun i : CIx => atPos ER (kcell (c, i)) 0 ∅ 0) ∗ payToks c) := by
  unfold linear posA
  rw [bigSep_cix, bigSep_arrays]
  exact equiv_iff.mp ⟨BI.sep_assoc', BI.sep_assoc⟩

theorem G'_intro (K : Dev nD × CIx → ℕ) (c : Dev nD) : iprop(records m K ∗ linear c) ⊢ G' m c := by
  unfold G'
  iintro H
  iexists K; iexact H

theorem regroup :
    (bigSep Finset.univ fun c : Dev nD => iprop((bigSep Finset.univ fun i : CIx => iprop(∃ κ : ℕ, cellInv ER (rd m) κ (kcell (c, i))))
          ∗ (bigSep Finset.univ fun i : CIx => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ci : Dev nD × CIx => iprop(∃ κ : ℕ, cellInv ER (rd m) κ (kcell ci))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ci : Dev nD × CIx => (reached ER (kcell ci) 0 : sProp 𝕄))]
  iintro ⟨HI, ⟨Hat, #HR⟩, Htok⟩
  ihave HK := (BI.bigSep_exists_pi Finset.univ (fun (ci : Dev nD × CIx) (κ : ℕ) => (cellInv ER (rd m) κ (kcell ci) : sProp 𝕄))) $$ HI
  icases HK with ⟨%K, #HI⟩
  ihave Htk := (toks_deal (F := F)) $$ Htok
  iapply (show iprop(records m K ∗ bigSep Finset.univ fun c : Dev nD => linear c) ⊢ bigSep Finset.univ (G' m) from
    (sep_mono_left (BI.bigSep_of_persistent Finset.univ (records m K))).trans (by
      rw [← bigSep_sep']
      exact bigSep_mono fun c _ => G'_intro m K c))
  isplitr
  · unfold records; isplitl; · iexact HI
    iexact HR
  · simp only [linear_eq, bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- What all devices together owe one cell through one phase, the debtors re-indexed by who is owed. -/
theorem sum_debts (X : Dev nD → Fin 32 → GSem nD τ sig) (n : ℕ) (g : GSem nD τ sig) :
    (∑ d : Dev nD, (ks.map fun k => (tallyAt (X (peer d k) k) () n : Tallies) g ()).sum)
      = ∑ k ∈ Finset.univ.erase (0 : Fin 32), ∑ d : Dev nD, if g = X d k then n else 0 := by
  have h (d : Dev nD) : (ks.map fun k => (tallyAt (X (peer d k) k) () n : Tallies) g ()).sum
      = ∑ k ∈ Finset.univ.erase (0 : Fin 32), if g = X (peer d k) k then n else 0 := by
    rw [← ks_set, List.sum_toFinset _ ks_nodup]
    refine congrArg List.sum (List.map_congr_left fun k _ => ?_)
    rw [tallyAt_apply]; simp only [and_true]
  rw [Finset.sum_congr rfl fun d _ => h d, Finset.sum_comm]
  exact Finset.sum_congr rfl fun k _ => Equiv.sum_comp (peerEquiv k) fun d => if g = X d k then n else 0

/-- Over all devices, what one cell is owed. -/
theorem sum_owed (g : GSem nD τ sig) :
    (∑ d : Dev nD, O₀ d g ()) = (∑ k ∈ Finset.univ.erase (0 : Fin 32), ∑ d : Dev nD, if g = bar d then 1 else 0)
      + ((∑ k ∈ Finset.univ.erase (0 : Fin 32), ∑ d : Dev nD, if g = cell d 1 k then N else 0)
      + ∑ k ∈ Finset.univ.erase (0 : Fin 32), ∑ d : Dev nD, if g = cell d 3 k then N else 0) := by
  rw [← sum_debts (fun d _ => bar d), ← sum_debts (fun d k => cell d 1 k), ← sum_debts (fun d k => cell d 3 k), ← Finset.sum_add_distrib, ← Finset.sum_add_distrib]
  refine Finset.sum_congr rfl fun d _ => ?_
  unfold O₀ O₁ O₂
  rw [owed_apply, owed_apply, owed_apply]
  exact congrArg₂ _ rfl (congrArg₂ _ rfl (Nat.add_zero _))

theorem sum_none (P : Dev nD → Fin 32 → Prop) [∀ d k, Decidable (P d k)] (n : ℕ) (h : ∀ d k, ¬ P d k) :
    (∑ k ∈ Finset.univ.erase (0 : Fin 32), ∑ d : Dev nD, if P d k then n else 0) = 0 :=
  Finset.sum_eq_zero fun k _ => Finset.sum_eq_zero fun d _ => if_neg (h d k)

theorem sum_one (c : Dev nD) (a : Fin 4) (k : Fin 32) (hk : k ≠ 0) :
    (∑ k' ∈ Finset.univ.erase (0 : Fin 32), ∑ d : Dev nD, if cell c a k = cell d a k' then N else 0) = N := by
  rw [Finset.sum_eq_single k (fun k' _ hk' => Finset.sum_eq_zero fun d _ => if_neg fun h => hk' (cell_eq_iff.1 h).2.2.symm)
      (fun h => absurd (Finset.mem_erase.2 ⟨hk, Finset.mem_univ k⟩) h),
    Finset.sum_eq_single c (fun d _ hd => if_neg fun h => hd (cell_eq_iff.1 h).1.symm) (fun h => absurd (Finset.mem_univ c) h), if_pos rfl]

theorem launch_eq (g : GSem nD τ sig) (n : ℕ) (h : (∑ d : Dev nD, O₀ d g ()) = n) :
    tallyOn g (launchCredit (Pipeline.owing O₀) 0 g) = (tallyAt g () n : Tallies) := by
  unfold tallyAt; refine congrArg _ (Finsupp.ext fun u => ?_); cases u
  rw [Pipeline.launchCredit_owing, Finsupp.single_eq_same, h]

theorem launch_bar (c : Dev nD) : tallyOn (bar c) (launchCredit (Pipeline.owing O₀) 0 (bar c)) = (tallyAt (bar c) () 31 : Tallies) :=
  launch_eq _ _ (by
    rw [sum_owed, sum_none (fun d k => bar c = cell d 1 k) N fun d k => bar_ne_cell, sum_none (fun d k => bar c = cell d 3 k) N fun d k => bar_ne_cell,
      Finset.sum_congr rfl (g := fun _ => 1) fun k _ => by
        rw [Finset.sum_eq_single c (fun d _ hd => if_neg fun h => hd (bar_eq_iff.1 h).symm) (fun h => absurd (Finset.mem_univ c) h), if_pos rfl]]
    decide)

theorem launch_recv1 (c : Dev nD) (k : Fin 32) (hk : k ≠ 0) :
    tallyOn (cell c 1 k) (launchCredit (Pipeline.owing O₀) 0 (cell c 1 k)) = (tallyAt (cell c 1 k) () N : Tallies) :=
  launch_eq _ _ (by
    rw [sum_owed, sum_none (fun d _ => cell c 1 k = bar d) 1 fun d _ h => bar_ne_cell h.symm,
      sum_none (fun d k' => cell c 1 k = cell d 3 k') N fun d k' h => absurd (cell_eq_iff.1 h).2.1 (by decide), sum_one c 1 k hk]; omega)

theorem launch_recv2 (c : Dev nD) (k : Fin 32) (hk : k ≠ 0) :
    tallyOn (cell c 3 k) (launchCredit (Pipeline.owing O₀) 0 (cell c 3 k)) = (tallyAt (cell c 3 k) () N : Tallies) :=
  launch_eq _ _ (by
    rw [sum_owed, sum_none (fun d _ => cell c 3 k = bar d) 1 fun d _ h => bar_ne_cell h.symm,
      sum_none (fun d k' => cell c 3 k = cell d 1 k') N fun d k' h => absurd (cell_eq_iff.1 h).2.1 (by decide), sum_one c 3 k hk]; omega)

theorem sepL_congr {l : List (Fin 32)} {Φ Ψ : Fin 32 → sProp 𝕄} (h : ∀ k ∈ l, Φ k = Ψ k) : sepL l Φ = sepL l Ψ := by
  induction l with
  | nil => rfl
  | cons k l ih => rw [sepL_cons, sepL_cons, h k List.mem_cons_self, ih fun k' hk' => h k' (List.mem_cons_of_mem _ hk')]

/-- Of a family over all semaphores, the barrier's entry and the four arrays'. -/
theorem own_cells (Φ : SemLoc sig → sProp 𝕄) :
    bigSep Finset.univ Φ ⊢ iprop(Φ (.reg barS) ∗ (bigSep Finset.univ fun k => Φ (.dma (semA 0 k))) ∗ (bigSep Finset.univ fun k => Φ (.dma (semA 1 k)))
      ∗ (bigSep Finset.univ fun k => Φ (.dma (semA 2 k))) ∗ bigSep Finset.univ fun k => Φ (.dma (semA 3 k))) := by
  refine (bigSep_subset (Finset.subset_univ (Finset.univ.map ⟨csem, csem_injective⟩))).trans ?_
  rw [bigSep_map, bigSep_cix, bigSep_arrays]
  exact BI.Entails.refl _

theorem creds_intro (c : Dev nD) : (Pipeline.launchCred O₀ c : sProp 𝕄) ⊢ creds c := by
  unfold Pipeline.launchCred
  unfold creds
  rw [← launch_bar c, sepL_congr (Φ := fun k => cred (tallyAt (cell c 1 k) () N)) fun k hk => by rw [← launch_recv1 c k (ks_ne k hk)],
    sepL_congr (Φ := fun k => cred (tallyAt (cell c 3 k) () N)) fun k hk => by rw [← launch_recv2 c k (ks_ne k hk)]]
  iintro H
  ihave H := (own_cells fun sm => (cred (tallyOn ((c : Thread nD τ), sm) (launchCredit (Pipeline.owing O₀) 0 ((c : Thread nD τ), sm))) : sProp 𝕄)) $$ H
  icases H with ⟨HB, -, H1, -, H3⟩
  isplitl [HB]; · iexact HB
  isplitl [H1]
  · iapply (own_deal fun k => (cred (tallyOn (cell c 1 k) (launchCredit (Pipeline.owing O₀) 0 (cell c 1 k))) : sProp 𝕄)); iexact H1
  iapply (own_deal fun k => (cred (tallyOn (cell c 3 k) (launchCredit (Pipeline.owing O₀) 0 (cell c 3 k))) : sProp 𝕄)); iexact H3

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, unscopedSems0_eq]
  unfold Φ₁ scratch zeroA Pipeline.ownSems0
  rw [bigSep_arrays]
  iintro ⟨Hr, HzA, HzB⟩
  isplitl [HzB]; · iexact HzB
  isplitl [HzA]; · iexact HzA
  iexact Hr

theorem waits (c : Dev nD) : (levAts L lv : sProp 𝕄) ⊢ Pipeline.cellsWaits cfgs (dats m) () 0 c :=
  Pipeline.cellsWaits_intro cfgs (dats m) () 0 c fun w s t =>
    mayWait c _ 0 _ (by
      have h : (((cfgs 0).win w).sem s).val < 6 := stage_val w s
      exact le_of_eq (if_pos (by omega))) (by
      rcases t with ⟨_ | _, ht⟩
      · exact fun g u h => ⟨(above_O₀ c g u h).1, (above_O₀ c g u h).2⟩
      · exact fun g u h => absurd h (Nat.lt_irrefl 0))

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 65536 in
/-- From any memory with all counters at zero, every run of the 32 devices ends, each window's array at its computed contents
    and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array holds what it held. -/
theorem finalA_in (c : Dev nD) (w : Fin cfg0.W) (hw : (cfg0.win w).isOut = false) : finalA m c w = m ((cfg0.win w).arr.view.loc (c : Thread nD τ)) :=
  (dats (F := F) m 0 c).arrAt_in w hw _

end Cert.RopeRun
-- ==== Proof.Frames.lean ====
/-
The frames of the kernel: as printed and idealized it is one program, so one run gives both.
-/
module

public import proofs.«01_k».proof.Proof.Launch
public import proofs.«01_k».proof.Defs
public import proofs.«01_k».proof.Proof.Gen.Kernel
public import proofs.«01_k».proof.Proof.Gen.ReferenceIdeal.Run

@[expose] public section

noncomputable section

namespace Cert.RopeRun

open Cert.KernelIdeal Cert.KernelIdeal.Gen
open Idealize.ShloMosaic Idealize.ShloMosaic.TcCoe Idealize.SL.Sem

variable {F : FTy → Type} [FloatOps F]

/-- Every operand's array ends as it was, and every counter at zero. -/
theorem run_frame (m : (ℓ : Loc nD τ sig) → Buf (Elt F) ℓ) (ρ : Dev nD → PrngReg) :
    θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨(h.1 c 0).trans (finalA_in m c 0 rfl), (h.1 c 1).trans (finalA_in m c 1 rfl), (h.1 c 2).trans (finalA_in m c 2 rfl),
    (h.1 c 3).trans (finalA_in m c 3 rfl), (h.1 c 4).trans (finalA_in m c 4 rfl)⟩, h.2⟩) (run_main m ρ)

theorem frame_ideal : Cert.quiescent_KernelIdeal (hKernelIdeal := Cert.KernelIdeal.Gen.facts) := fun m g _ => run_frame m g

/-- The program as printed and the program idealized: one body table. -/
theorem bodies_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

theorem defs_same : Cert.Kernel.defs (F := Bits) = Cert.KernelIdeal.defs (F := Bits) :=
  congrArg (Pipeline.defs (Cert.KernelIdeal.pcfgs (F := Bits))) bodies_same

theorem frame_kernel : Cert.quiescent_Kernel (hKernel := Cert.Kernel.Gen.facts) := fun m g _ => by
  have h := run_frame (F := Bits) m g
  rw [← defs_same] at h
  exact h

theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.ReferenceIdeal.Value.run m g)

end Cert.RopeRun
-- ==== Proof.Stages.lean ====
/-
What a device computes of one half of the batch, stage by stage, each stage read at one index over the extended reals.
-/
module

public import proofs.«01_k».proof.Proof.Program
public import Idealize.ShloMosaic.Lib.Pointwise

@[expose] public section

noncomputable section

namespace Cert.RopeRun

open Cert.KernelIdeal Cert.KernelIdeal.Gen
open Idealize.ShloMosaic

set_option maxRecDepth 16384

/-- Whether a column is even, as the program computes it on words. -/
theorem even_at (i n : Fin 256) : even (ix2 i n) = if n.val % 2 = 0 then 1#1 else 0#1 := by
  unfold even
  pointwise [k0_pay11]
  revert n
  decide +kernel

/-- Twice the number of a column's pair within its head. -/
theorem expo_at (i n : Fin 256) : k0_pay6 (F := Ideal) (ix2 i n) = FloatOps.sitofp (F := Ideal) .f32 (BitVec.ofNat 32 (2 * (n.val % 64 / 2))) := by
  pointwise [k0_pay6]
  refine congrArg (FloatOps.sitofp (F := Ideal) .f32) ?_
  revert n
  decide +kernel

theorem angle_at (i n : Fin 256) : angle (F := Ideal) (ix2 i n) =
    FloatOps.sitofp (F := Ideal) .f32 (BitVec.ofNat 32 i.val)
      * Ideal.exp ((0 - Ideal.div (FloatOps.sitofp (F := Ideal) .f32 (BitVec.ofNat 32 (2 * (n.val % 64 / 2)))) (Ideal.ofBits .f32 0x42800000#32))
          * Ideal.log (Ideal.ofBits .f32 0x461C4000#32)) := by
  rw [← expo_at i n]
  unfold angle
  pointwise [k0_pay5, k0_pay7, k0_pay8]
  rfl

theorem rope_at (t : FVec Ideal S256x256 .f32) (i n : Fin 256) : rope t (ix2 i n) =
    t (ix2 i n) * Ideal.cos (angle (F := Ideal) (ix2 i n)) +
      Scalar.select (even (ix2 i n)) (0 - if h : n.val < 255 then t (ix2 i ⟨1 + n.val, by omega⟩) else 0)
          (if h : n.val < 1 then 0 else t (ix2 i ⟨n.val - 1, by omega⟩)) * Ideal.sin (angle (F := Ideal) (ix2 i n)) := by
  pointwise [rope]

theorem proj_at (x : FVec Ideal S256x768 .bf16) (w : FVec Ideal S768x256 .bf16) (i n : Fin 256) :
    proj x w (ix2 i n) = ∑ k : Fin 768, x (ix2 i k) * w (ix2 k n) := by
  pointwise [proj]

theorem weights_at (q k : FVec Ideal S256x64 .bf16) (i j : Fin 256) : weights q k (ix2 i j) =
    Ideal.div
      (Ideal.exp ((∑ d : Fin 64, q (ix2 i d) * k (ix2 j d)) * Ideal.ofBits .f32 0x3E000000#32 -
        Finset.fold max (Ideal.ofBits .f32 0xFF800000#32) (fun j => (∑ d : Fin 64, q (ix2 i d) * k (ix2 j d)) * Ideal.ofBits .f32 0x3E000000#32) Finset.univ))
      (∑ j' : Fin 256, Ideal.exp ((∑ d : Fin 64, q (ix2 i d) * k (ix2 j' d)) * Ideal.ofBits .f32 0x3E000000#32 -
        Finset.fold max (Ideal.ofBits .f32 0xFF800000#32) (fun j => (∑ d : Fin 64, q (ix2 i d) * k (ix2 j d)) * Ideal.ofBits .f32 0x3E000000#32) Finset.univ)) := by
  pointwise [weights]

theorem slice_at (o : Nat) (ho : S256x256.Slices (![0, o] : Fin 2 → Nat) S256x64) (h : o + 64 ≤ 256) (q : FVec Ideal S256x256 .bf16) (i : Fin 256) (d : Fin 64) :
    extractStridedSlice S256x64 ![0, o] q ho (ix2 i d) = q (ix2 i ⟨o + d.val, by omega⟩) := by
  pointwise

theorem head_at (o : Nat) (ho : S256x256.Slices (![0, o] : Fin 2 → Nat) S256x64) (q k v : FVec Ideal S256x256 .bf16) (i : Fin 256) (d : Fin 64) :
    head o ho q k v (ix2 i d) = ∑ j : Fin 256,
      weights (extractStridedSlice S256x64 ![0, o] q ho) (extractStridedSlice S256x64 ![0, o] k ho) (ix2 i j) * extractStridedSlice S256x64 ![0, o] v ho (ix2 j d) := by
  unfold head
  generalize weights (extractStridedSlice S256x64 ![0, o] q ho) (extractStridedSlice S256x64 ![0, o] k ho) = w
  generalize extractStridedSlice S256x64 ![0, o] v ho = v'
  pointwise

/-- The four heads side by side. -/
def heads (q k v : FVec Ideal S256x256 .bf16) : FVec Ideal S256x256 .f32 :=
  concatenate S256x256 1
    [⟨S256x64, head 0 slices_S256x256_o0_0_S256x64 q k v⟩, ⟨S256x64, head 64 slices_S256x256_o0_64_S256x64 q k v⟩,
     ⟨S256x64, head 128 slices_S256x256_o0_128_S256x64 q k v⟩, ⟨S256x64, head 192 slices_S256x256_o0_192_S256x64 q k v⟩]
    concatenates_S256x64_S256x64_S256x64_S256x64_S256x256_d1

theorem heads_at (q k v : FVec Ideal S256x256 .bf16) (i n : Fin 256) : heads q k v (ix2 i n) =
    if h : n.val < 64 then head 0 slices_S256x256_o0_0_S256x64 q k v (ix2 i ⟨n.val, h⟩)
    else if h' : n.val - 64 < 64 then head 64 slices_S256x256_o0_64_S256x64 q k v (ix2 i ⟨n.val - 64, h'⟩)
    else if h'' : n.val - 64 - 64 < 64 then head 128 slices_S256x256_o0_128_S256x64 q k v (ix2 i ⟨n.val - 64 - 64, h''⟩)
    else head 192 slices_S256x256_o0_192_S256x64 q k v (ix2 i ⟨n.val - 64 - 64 - 64, by omega⟩) := by
  pointwise [heads]

/-- The half of the batch as a matrix. -/
def rows (x : FVec Ideal S1x256x768 .bf16) : FVec Ideal S256x768 .bf16 :=
  shapeCast S256x768 (shapeCast S1x256x768 x shapeCasts_S1x256x768_S1x256x768) shapeCasts_S1x256x768_S256x768

theorem rows_at (x : FVec Ideal S1x256x768 .bf16) (i : Fin 256) (k : Fin 768) : rows x (ix2 i k) = x (ix3 0 i k) := by
  pointwise [rows]

/-- The product of the heads with a device's rows of the last weight. -/
def last (hs : FVec Ideal S256x256 .f32) (wo : FVec Ideal S256x768 .bf16) : FVec Ideal S256x768 .bf16 :=
  shapeCast S256x768 (truncf .bf16 (matmul dot_S256x256_S256x768_S256x768_1_0_0_1_n_n none (truncf .bf16 hs bitsLt_bf16_f32)
    (shapeCast S256x768 wo shapeCasts_S256x768_S256x768) (constant S256x768 .f32 0x00000000#32)) bitsLt_bf16_f32) shapeCasts_S256x768_S256x768

theorem last_at (hs : FVec Ideal S256x256 .f32) (wo : FVec Ideal S256x768 .bf16) (i : Fin 256) (n : Fin 768) :
    last hs wo (ix2 i n) = ∑ k : Fin 256, hs (ix2 i k) * wo (ix2 k n) := by
  pointwise [last]

theorem halfOut_eq (x : FVec Ideal S1x256x768 .bf16) (wq wk wv : FVec Ideal S768x256 .bf16) (wo : FVec Ideal S256x768 .bf16) :
    halfOut x wq wk wv wo = last (heads (rope (proj (rows x) wq)) (rope (proj (rows x) wk)) (proj (rows x) wv)) wo := rfl

end Cert.RopeRun
-- ==== Proof.RefStages.lean ====
/-
The reference's value in stages — frequencies, rotation, scores, weights, heads — and each stage read at one index.
-/
module

public import proofs.«01_k».proof.Proof.Gen.ReferenceIdeal.Run
public import Idealize.ShloMosaic.Lib.Pointwise

@[expose] public section

noncomputable section

namespace Cert.RopeRef

open Cert.ReferenceIdeal Cert.ReferenceIdeal.Gen Cert.ReferenceIdeal.Value
open Idealize.ShloMosaic Idealize.ShloMosaic.TcCoe Idealize.SL.Sem

variable {F : FTy → Type} [FloatOps F]

/-! ## The stages -/

/-- The frequency of each of the 32 pairs of columns. -/
def freq : FVec F S32 .f32 :=
  Host.divf (broadcastInDim S32 ![] bcast_S_S32 (constant S_ .f32 0x3F800000#32))
    (Host.powf (broadcastInDim S32 ![] bcast_S_S32 (constant S_ .f32 0x461C4000#32))
      (Host.divf (sitofp .f32 (addi (broadcastInDim S32 ![] bcast_S_S32 (constantI S_ 32 0#32))
          (muli (broadcastInDim S32 ![] bcast_S_S32 (constantI S_ 32 2#32)) (iotaInDim S32 32 0))))
        (broadcastInDim S32 ![] bcast_S_S32 (constant S_ .f32 0x42800000#32))))

/-- The angle of each row and pair. -/
def angle : FVec F S256x32 .f32 :=
  mulf (broadcastInDim S256x32 ![0, 1] bcast_S256x1_S256x32_0_1 (sitofp .f32 (broadcastInDim S256x1 ![0] bcast_S256_S256x1_0 (iotaInDim S256 32 0))))
    (broadcastInDim S256x32 ![0, 1] bcast_S1x32_S256x32_0_1 (broadcastInDim S1x32 ![1] bcast_S32_S1x32_1 freq))

/-- A value of each row and pair, spread over batches, heads and both columns of a pair. -/
def spread (g : FVec F S256x32 .f32) : FVec F S2x256x128x64 .f32 :=
  broadcastInDim S2x256x128x64 ![0, 1, 2, 3] bcast_S1x256x1x64_S2x256x128x64_0_1_2_3 (broadcastInDim S1x256x1x64 ![1, 3] bcast_S256x64_S1x256x1x64_1_3
    (shapeCast _ (broadcastInDim S256x32x2 ![0, 1] bcast_S256x32_S256x32x2_0_1 g) shapeCasts_S256x32x2_S256x64))

/-- A projection of the rows, its columns split into heads. -/
def proj (x : FVec F S2x256x768 .bf16) (w : FVec F S768x8192 .bf16) : FVec F S2x256x128x64 .f32 :=
  shapeCast _ (Host.dotGeneral dot_S2x256x768_S768x8192_S2x256x8192_2_0_01_1_n_n none (extf .f32 x bitsLt_bf16_f32) (extf .f32 w bitsLt_bf16_f32))
    shapeCasts_S2x256x8192_S2x256x128x64

/-- Each pair of columns `(a, b)` made `(-b, a)`. -/
def turn (t : FVec F S2x256x128x64 .f32) : FVec F S2x256x128x64 .f32 :=
  shapeCast _ (concatenate S2x256x128x32x2 4
    [⟨S2x256x128x32x1, (broadcastInDim S2x256x128x32x1 ![0, 1, 2, 3] bcast_S2x256x128x32_S2x256x128x32x1_0_1_2_3 (Host.negf (shapeCast _
        (extractStridedSlice S2x256x128x32x1 ![0, 0, 0, 0, 1] (shapeCast _ t shapeCasts_S2x256x128x64_S2x256x128x32x2) slices_S2x256x128x32x2_S2x256x128x32x1_0_0_0_0_1)
        shapeCasts_S2x256x128x32x1_S2x256x128x32)))⟩,
     ⟨S2x256x128x32x1, (broadcastInDim S2x256x128x32x1 ![0, 1, 2, 3] bcast_S2x256x128x32_S2x256x128x32x1_0_1_2_3 (shapeCast _
        (extractStridedSlice S2x256x128x32x1 ![0, 0, 0, 0, 0] (shapeCast _ t shapeCasts_S2x256x128x64_S2x256x128x32x2) slices_S2x256x128x32x2_S2x256x128x32x1_0_0_0_0_0)
        shapeCasts_S2x256x128x32x1_S2x256x128x32))⟩]
    concatenates_S2x256x128x32x1_S2x256x128x32x1_S2x256x128x32x2_d4) shapeCasts_S2x256x128x32x2_S2x256x128x64

/-- The rotation. -/
def rope (t : FVec F S2x256x128x64 .f32) : FVec F S2x256x128x64 .f32 :=
  addf (mulf t (spread (Host.cos angle))) (mulf (turn t) (spread (Host.sin angle)))

/-- The scaled scores. -/
def scores (q k : FVec F S2x256x128x64 .f32) : FVec F S2x128x256x256 .f32 :=
  mulf (Host.dotGeneral dot_S2x256x128x64_S2x256x128x64_S2x128x256x256_3_3_1_1_02_02 none q k)
    (broadcastInDim S2x128x256x256 ![] bcast_S_S2x128x256x256 (constant S_ .f32 0x3E000000#32))

/-- A value of each query, spread over the keys. -/
def keys (v : FVec F S2x128x256 .f32) : FVec F S2x128x256x256 .f32 :=
  broadcastInDim S2x128x256x256 ![0, 1, 2, 3] bcast_S2x128x256x1_S2x128x256x256_0_1_2_3 (broadcastInDim S2x128x256x1 ![0, 1, 2] bcast_S2x128x256_S2x128x256x1_0_1_2 v)

/-- The exponentials of the scores, less their maximum. -/
def expo (s : FVec F S2x128x256x256 .f32) : FVec F S2x128x256x256 .f32 :=
  Host.exp (subf s (keys (Host.reduce FloatOps.maximumf s (constant S_ .f32 0xFF800000#32) reducesTo_S2x128x256x256_S2x128x256_d3 h_S_)))

/-- The weights. -/
def weights (s : FVec F S2x128x256x256 .f32) : FVec F S2x128x256x256 .f32 :=
  Host.divf (expo s) (keys (Host.reduceAdd (expo s) (constant S_ .f32 0x00000000#32) reducesTo_S2x128x256x256_S2x128x256_d3 h_S_))

/-- Each head's weighted values, the heads side by side. -/
def ctx (w : FVec F S2x128x256x256 .f32) (v : FVec F S2x256x128x64 .f32) : FVec F S2x256x8192 .f32 :=
  shapeCast _ (transpose S2x256x128x64 [0, 3, 1, 2] (Host.dotGeneral dot_S2x256x128x64_S2x128x256x256_S2x128x64x256_1_3_3_2_02_01 none v w)
    transposes_S2x128x64x256_S2x256x128x64_0_3_1_2) shapeCasts_S2x256x128x64_S2x256x8192

/-- The whole computation. -/
def out (x : FVec F S2x256x768 .bf16) (wq wk wv : FVec F S768x8192 .bf16) (wo : FVec F S8192x768 .bf16) : FVec F S512x768 .bf16 :=
  truncf .bf16 (shapeCast _ (Host.dotGeneral dot_S2x256x8192_S8192x768_S2x256x768_2_0_01_1_n_n none
    (ctx (weights (scores (rope (proj x wq)) (rope (proj x wk)))) (proj x wv)) (extf .f32 wo bitsLt_bf16_f32)) shapeCasts_S2x256x768_S512x768) bitsLt_bf16_f32

set_option maxRecDepth 8192 in
theorem res_eq (m : (ℓ : Loc nD τ sig) → Buf (Elt F) ℓ) (c : Dev nD) :
    res_main_v87 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

set_option maxRecDepth 16384

/-! ## The stages at an index, over the extended reals -/

theorem freq_at (p : Fin 32) : freq (F := Ideal) (ix1 p) =
    Ideal.div 1 (Ideal.pow (Ideal.ofBits .f32 0x461C4000#32)
      (Ideal.div (FloatOps.sitofp (F := Ideal) .f32 (IntOp.addi (0#32) (IntOp.muli (2#32) (BitVec.ofNat 32 p.val)))) (Ideal.ofBits .f32 0x42800000#32))) := by
  pointwise [freq]

theorem angle_at (i : Fin 256) (p : Fin 32) :
    angle (F := Ideal) (ix2 i p) = FloatOps.sitofp (F := Ideal) .f32 (BitVec.ofNat 32 i.val) * freq (F := Ideal) (ix1 p) := by
  pointwise [angle]

theorem spread_at (g : FVec Ideal S256x32 .f32) (b : Fin 2) (i : Fin 256) (h : Fin 128) (d : Fin 64) :
    spread g (ix4 b i h d) = g (ix2 i ⟨d.val / 2, by omega⟩) := by
  pointwise [spread]

theorem proj_at (x : FVec Ideal S2x256x768 .bf16) (w : FVec Ideal S768x8192 .bf16) (b : Fin 2) (i : Fin 256) (h : Fin 128) (d : Fin 64) :
    proj x w (ix4 b i h d) = ∑ k : Fin 768, x (ix3 b i k) * w (ix2 k ⟨h.val * 64 + d.val, by omega⟩) := by
  pointwise [proj]

theorem turn_at (t : FVec Ideal S2x256x128x64 .f32) (b : Fin 2) (i : Fin 256) (h : Fin 128) (d : Fin 64) :
    turn t (ix4 b i h d) = if d.val % 2 < 1 then -t (ix4 b i h ⟨d.val / 2 * 2 + 1, by omega⟩) else t (ix4 b i h ⟨d.val / 2 * 2, by omega⟩) := by
  pointwise [turn]
  rfl

theorem rope_at (t : FVec Ideal S2x256x128x64 .f32) (b : Fin 2) (i : Fin 256) (h : Fin 128) (d : Fin 64) :
    rope t (ix4 b i h d) = t (ix4 b i h d) * Ideal.cos (angle (F := Ideal) (ix2 i ⟨d.val / 2, by omega⟩))
      + turn t (ix4 b i h d) * Ideal.sin (angle (F := Ideal) (ix2 i ⟨d.val / 2, by omega⟩)) := by
  pointwise [rope, spread]

theorem scores_at (q k : FVec Ideal S2x256x128x64 .f32) (b : Fin 2) (h : Fin 128) (i j : Fin 256) :
    scores q k (ix4 b h i j) = (∑ d : Fin 64, q (ix4 b i h d) * k (ix4 b j h d)) * Ideal.ofBits .f32 0x3E000000#32 := by
  pointwise [scores]

theorem weights_at (s : FVec Ideal S2x128x256x256 .f32) (b : Fin 2) (h : Fin 128) (i j : Fin 256) :
    weights s (ix4 b h i j) =
      Ideal.div (Ideal.exp (s (ix4 b h i j) - Finset.fold max (Ideal.ofBits .f32 0xFF800000#32) (fun j => s (ix4 b h i j)) Finset.univ))
        (∑ j' : Fin 256, Ideal.exp (s (ix4 b h i j') - Finset.fold max (Ideal.ofBits .f32 0xFF800000#32) (fun j => s (ix4 b h i j)) Finset.univ)) := by
  pointwise [weights, expo, keys]

theorem ctx_at (w : FVec Ideal S2x128x256x256 .f32) (v : FVec Ideal S2x256x128x64 .f32) (b : Fin 2) (i : Fin 256) (n : Fin 8192) :
    ctx w v (ix3 b i n) = ∑ j : Fin 256, v (ix4 b j ⟨n.val / 64, by omega⟩ ⟨n.val % 64, by omega⟩) * w (ix4 b ⟨n.val / 64, by omega⟩ i j) := by
  pointwise [ctx]

theorem out_at (x : FVec Ideal S2x256x768 .bf16) (wq wk wv : FVec Ideal S768x8192 .bf16) (wo : FVec Ideal S8192x768 .bf16) (r : Fin 512) (n : Fin 768) :
    out x wq wk wv wo (ix2 r n) = ∑ k : Fin 8192,
      ctx (weights (scores (rope (proj x wq)) (rope (proj x wk)))) (proj x wv) (ix3 ⟨r.val / 256, by omega⟩ ⟨r.val % 256, by omega⟩ k) * wo (ix2 k n) := by
  pointwise [out]

end Cert.RopeRef
-- ==== Proof.Match.lean ====
/-
The stages of a device against the reference's: over the extended reals, what device `c` computes of batch `b` is what its
256 columns, four heads, contribute to the reference's last product.
-/
module

public import proofs.«01_k».proof.Proof.Stages
public import proofs.«01_k».proof.Proof.RefStages

@[expose] public section

noncomputable section

namespace Cert.RopeRun

open Cert.KernelIdeal Cert.KernelIdeal.Gen
open Idealize.ShloMosaic

/-! ## The angles -/

theorem bits_64 : Ideal.ofBits .f32 0x42800000#32 = ((64 : ℝ) : EReal) := by
  simp [Ideal.ofBits, Ideal.ieee]
  rw [← EReal.coe_mul]
  norm_num

theorem bits_10000 : Ideal.ofBits .f32 0x461C4000#32 = ((10000 : ℝ) : EReal) := by
  simp [Ideal.ofBits, Ideal.ieee]
  rw [← EReal.coe_mul]
  norm_num

/-- `exp (-e/64 * log 10000)` is `1 / 10000 ^ (e/64)`. -/
theorem power_eq (e : ℤ) :
    Ideal.exp ((0 - Ideal.div ((e : ℝ) : EReal) ((64 : ℝ) : EReal)) * Ideal.log ((10000 : ℝ) : EReal))
      = Ideal.div 1 (Ideal.pow ((10000 : ℝ) : EReal) (Ideal.div ((e : ℝ) : EReal) ((64 : ℝ) : EReal))) := by
  rw [Ideal.div_coe (by norm_num), Ideal.log_coe, if_neg (by norm_num), ← EReal.coe_mul, Ideal.pow_coe_coe]
  have hp : Real.rpow 10000 ((e : ℝ) * (1 / 64)) ≠ 0 := (Real.rpow_pos_of_pos (by norm_num) _).ne'
  rw [Ideal.div_coe hp, one_mul, ← EReal.coe_zero, ← EReal.coe_sub, ← EReal.coe_mul, Ideal.exp_coe]
  congr 1
  change _ = 1 / (10000 : ℝ) ^ ((e : ℝ) * (1 / 64))
  rw [one_div ((10000 : ℝ) ^ _), ← Real.rpow_neg (by norm_num), Real.rpow_def_of_pos (by norm_num)]
  congr 1
  ring

theorem angle_match (i n : Fin 256) :
    angle (F := Ideal) (ix2 i n) = Cert.RopeRef.angle (F := Ideal) (ix2 i ⟨n.val % 64 / 2, by omega⟩) := by
  rw [angle_at, Cert.RopeRef.angle_at, Cert.RopeRef.freq_at, bits_64, bits_10000]
  have hw : ∀ p : Fin 32, IntOp.addi (0#32) (IntOp.muli (2#32) (BitVec.ofNat 32 p.val)) = BitVec.ofNat 32 (2 * p.val) := by decide +kernel
  rw [hw]
  exact congrArg _ (power_eq _)

/-! ## One device's columns in the reference's arrays -/

/-- The head that column `n` of device `c` belongs to. -/
def hd (c : Fin 32) (n : Fin 256) : Fin 128 := ⟨c.val * 4 + n.val / 64, by omega⟩
/-- The place of column `n` in its head. -/
def ln (n : Fin 256) : Fin 64 := ⟨n.val % 64, by omega⟩
/-- Column `n` of device `c` among all columns. -/
def col (c : Fin 32) (n : Fin 256) : Fin 8192 := ⟨c.val * 256 + n.val, by omega⟩

/-- `t` is device `c`'s columns of batch `b` of `T`. -/
def Slab (b : Fin 2) (c : Fin 32) (t : FVec Ideal S256x256 .f32) (T : FVec Ideal Cert.ReferenceIdeal.S2x256x128x64 .f32) : Prop :=
  ∀ i n : Fin 256, t (ix2 i n) = T (ix4 b i (hd c n) (ln n))

theorem proj_match (b : Fin 2) (c : Fin 32) (x : FVec Ideal S256x768 .bf16) (w : FVec Ideal S768x256 .bf16)
    (X : FVec Ideal Cert.ReferenceIdeal.S2x256x768 .bf16) (W : FVec Ideal Cert.ReferenceIdeal.S768x8192 .bf16)
    (hx : ∀ i k, x (ix2 i k) = X (ix3 b i k)) (hw : ∀ k n, w (ix2 k n) = W (ix2 k (col c n))) :
    Slab b c (proj x w) (Cert.RopeRef.proj X W) := by
  intro i n
  rw [proj_at, Cert.RopeRef.proj_at]
  refine Finset.sum_congr rfl fun k _ => ?_
  rw [hx, hw]
  congr 3
  refine Fin.ext ?_
  show c.val * 256 + n.val = (c.val * 4 + n.val / 64) * 64 + n.val % 64
  omega

theorem rope_match (b : Fin 2) (c : Fin 32) (t : FVec Ideal S256x256 .f32) (T : FVec Ideal Cert.ReferenceIdeal.S2x256x128x64 .f32)
    (h : Slab b c t T) : Slab b c (rope t) (Cert.RopeRef.rope T) := by
  intro i n
  rw [rope_at, Cert.RopeRef.rope_at, Cert.RopeRef.turn_at, even_at, angle_match, h i n]
  congr 2
  by_cases hn : n.val % 2 = 0
  · have h1 : (ln n).val % 2 < 1 := by show n.val % 64 % 2 < 1; omega
    have h2 : n.val < 255 := by omega
    rw [if_pos hn, if_pos h1, dif_pos h2, h]
    show 0 - _ = _
    rw [zero_sub]
    congr 3
    · refine Fin.ext ?_
      show c.val * 4 + (1 + n.val) / 64 = c.val * 4 + n.val / 64
      omega
    · refine Fin.ext ?_
      show (1 + n.val) % 64 = n.val % 64 / 2 * 2 + 1
      omega
  · have h1 : ¬ (ln n).val % 2 < 1 := by show ¬ n.val % 64 % 2 < 1; omega
    have h2 : ¬ n.val < 1 := by omega
    rw [if_neg hn, if_neg h1, dif_neg h2, h]
    show T _ = T _
    congr 2
    · refine Fin.ext ?_
      show c.val * 4 + (n.val - 1) / 64 = c.val * 4 + n.val / 64
      omega
    · refine Fin.ext ?_
      show (n.val - 1) % 64 = n.val % 64 / 2 * 2
      omega

/-- A head's columns of a slab. -/
theorem slice_match (b : Fin 2) (c : Fin 32) (a : Fin 4) (o : Nat) (ho : S256x256.Slices (![0, o] : Fin 2 → Nat) S256x64) (hoa : o = 64 * a.val)
    (t : FVec Ideal S256x256 .f32) (T : FVec Ideal Cert.ReferenceIdeal.S2x256x128x64 .f32) (h : Slab b c t T) (i : Fin 256) (d : Fin 64) :
    extractStridedSlice (α := Ideal .bf16) S256x64 ![0, o] t ho (ix2 i d) = T (ix4 b i ⟨c.val * 4 + a.val, by omega⟩ d) := by
  refine (slice_at o ho (by omega) t i d).trans ((h i ⟨o + d.val, by omega⟩).trans ?_)
  congr 2
  · refine Fin.ext ?_
    show c.val * 4 + (o + d.val) / 64 = c.val * 4 + a.val
    omega
  · refine Fin.ext ?_
    show (o + d.val) % 64 = d.val
    omega

theorem weights_match (b : Fin 2) (h : Fin 128) (q k : FVec Ideal S256x64 .bf16) (Q K : FVec Ideal Cert.ReferenceIdeal.S2x256x128x64 .f32)
    (hq : ∀ i d, q (ix2 i d) = Q (ix4 b i h d)) (hk : ∀ i d, k (ix2 i d) = K (ix4 b i h d)) (i j : Fin 256) :
    weights q k (ix2 i j) = Cert.RopeRef.weights (Cert.RopeRef.scores Q K) (ix4 b h i j) := by
  rw [weights_at, Cert.RopeRef.weights_at]
  simp only [Cert.RopeRef.scores_at, hq, hk]

theorem head_match (b : Fin 2) (c : Fin 32) (a : Fin 4) (o : Nat) (ho : S256x256.Slices (![0, o] : Fin 2 → Nat) S256x64) (hoa : o = 64 * a.val)
    (q k v : FVec Ideal S256x256 .f32) (Q K V : FVec Ideal Cert.ReferenceIdeal.S2x256x128x64 .f32)
    (hq : Slab b c q Q) (hk : Slab b c k K) (hv : Slab b c v V) (i : Fin 256) (d : Fin 64) :
    head (F := Ideal) o ho q k v (ix2 i d)
      = Cert.RopeRef.ctx (Cert.RopeRef.weights (Cert.RopeRef.scores Q K)) V (ix3 b i ⟨c.val * 256 + (o + d.val), by omega⟩) := by
  rw [head_at, Cert.RopeRef.ctx_at]
  refine Finset.sum_congr rfl fun j _ => ?_
  have e1 : (⟨(c.val * 256 + (o + d.val)) / 64, by omega⟩ : Fin 128) = ⟨c.val * 4 + a.val, by omega⟩ := Fin.ext (by show (c.val * 256 + (o + d.val)) / 64 = c.val * 4 + a.val; omega)
  have e2 : (⟨(c.val * 256 + (o + d.val)) % 64, by omega⟩ : Fin 64) = d := Fin.ext (by show (c.val * 256 + (o + d.val)) % 64 = d.val; omega)
  show _ = V (ix4 b j ⟨(c.val * 256 + (o + d.val)) / 64, _⟩ ⟨(c.val * 256 + (o + d.val)) % 64, _⟩)
    * Cert.RopeRef.weights _ (ix4 b ⟨(c.val * 256 + (o + d.val)) / 64, _⟩ i j)
  rw [e1, e2, weights_match b ⟨c.val * 4 + a.val, by omega⟩ _ _ Q K (slice_match b c a o ho hoa q Q hq) (slice_match b c a o ho hoa k K hk),
    slice_match b c a o ho hoa v V hv, mul_comm]

theorem heads_match (b : Fin 2) (c : Fin 32) (q k v : FVec Ideal S256x256 .f32) (Q K V : FVec Ideal Cert.ReferenceIdeal.S2x256x128x64 .f32)
    (hq : Slab b c q Q) (hk : Slab b c k K) (hv : Slab b c v V) (i n : Fin 256) :
    heads q k v (ix2 i n) = Cert.RopeRef.ctx (Cert.RopeRef.weights (Cert.RopeRef.scores Q K)) V (ix3 b i (col c n)) := by
  rw [heads_at]
  split_ifs with h1 h2 h3
  · rw [head_match b c 0 0 _ rfl q k v Q K V hq hk hv]
    congr 2
    exact Fin.ext (by show c.val * 256 + (0 + n.val) = c.val * 256 + n.val; omega)
  · rw [head_match b c 1 64 _ rfl q k v Q K V hq hk hv]
    congr 2
    exact Fin.ext (by show c.val * 256 + (64 + (n.val - 64)) = c.val * 256 + n.val; omega)
  · rw [head_match b c 2 128 _ rfl q k v Q K V hq hk hv]
    congr 2
    exact Fin.ext (by show c.val * 256 + (128 + (n.val - 64 - 64)) = c.val * 256 + n.val; omega)
  · rw [head_match b c 3 192 _ rfl q k v Q K V hq hk hv]
    congr 2
    exact Fin.ext (by show c.val * 256 + (192 + (n.val - 64 - 64 - 64)) = c.val * 256 + n.val; omega)

/-- The reference's heads, all side by side. -/
abbrev refCtx (X : FVec Ideal Cert.ReferenceIdeal.S2x256x768 .bf16) (WQ WK WV : FVec Ideal Cert.ReferenceIdeal.S768x8192 .bf16) :
    FVec Ideal Cert.ReferenceIdeal.S2x256x8192 .f32 :=
  Cert.RopeRef.ctx (Cert.RopeRef.weights (Cert.RopeRef.scores (Cert.RopeRef.rope (Cert.RopeRef.proj X WQ)) (Cert.RopeRef.rope (Cert.RopeRef.proj X WK))))
    (Cert.RopeRef.proj X WV)

/-- What device `c` computes of batch `b`: its columns' part of the last product. -/
theorem half_match (b : Fin 2) (c : Fin 32) (x : FVec Ideal S1x256x768 .bf16) (wq wk wv : FVec Ideal S768x256 .bf16) (wo : FVec Ideal S256x768 .bf16)
    (X : FVec Ideal Cert.ReferenceIdeal.S2x256x768 .bf16) (WQ WK WV : FVec Ideal Cert.ReferenceIdeal.S768x8192 .bf16)
    (WO : FVec Ideal Cert.ReferenceIdeal.S8192x768 .bf16)
    (hx : ∀ i k, x (ix3 0 i k) = X (ix3 b i k)) (hq : ∀ k n, wq (ix2 k n) = WQ (ix2 k (col c n))) (hk : ∀ k n, wk (ix2 k n) = WK (ix2 k (col c n)))
    (hv : ∀ k n, wv (ix2 k n) = WV (ix2 k (col c n))) (ho : ∀ k n, wo (ix2 k n) = WO (ix2 (col c k) n)) (i : Fin 256) (n : Fin 768) :
    halfOut x wq wk wv wo (ix2 i n) = ∑ k : Fin 256, refCtx X WQ WK WV (ix3 b i (col c k)) * WO (ix2 (col c k) n) := by
  have hr : ∀ i k, rows x (ix2 i k) = X (ix3 b i k) := fun i k => (rows_at x i k).trans (hx i k)
  rw [halfOut_eq, last_at]
  refine Finset.sum_congr rfl fun k _ => ?_
  rw [ho]
  exact congrArg (· * _) (heads_match b c _ _ _ _ _ _ (rope_match b c _ _ (proj_match b c _ _ X WQ hr hq)) (rope_match b c _ _ (proj_match b c _ _ X WK hr hk))
    (proj_match b c _ _ X WV hr hv) i k)

/-- A sum over all columns is the sum over the devices of the sums over each one's columns. -/
theorem sum_cols (f : Fin 8192 → EReal) : ∑ n : Fin 8192, f n = ∑ c : Fin 32, ∑ k : Fin 256, f (col c k) := by
  rw [← Finset.sum_product', Finset.univ_product_univ]
  exact (Fintype.sum_equiv (finProdFinEquiv (m := 32) (n := 256)) _ _ (fun p => congrArg f (Fin.ext (by
    show p.1.val * 256 + p.2.val = p.2.val + 256 * p.1.val
    omega)))).symm

end Cert.RopeRun
-- ==== Proof.Value.lean ====
/-
The value: the rows every device gathers are the reference's result.
-/
module

public import proofs.«01_k».proof.Proof.Frames
public import proofs.«01_k».proof.Proof.Match

@[expose] public section

noncomputable section

namespace Cert.RopeRun

open Cert.KernelIdeal Cert.KernelIdeal.Gen
open Idealize.ShloMosaic Idealize.ShloMosaic.TcCoe Idealize.SL.Sem

/-! ## What the run leaves in the result's array -/

section Result

variable {F : FTy → Type} [FloatOps F] (m : (ℓ : Loc nD τ sig) → Buf (Elt F) ℓ)

theorem finalA_out (c : Dev nD) : finalA m c (5 : Fin 6) = outC m := by
  have hz : (fun a => (win0_5.index (0 : Fin 1)) a * main_v1.ty.shape.size a) = fun _ => 0 := funext fun a => by fin_cases a <;> decide
  have hr := fun f => Memref.read_access_unit_zero (Elt F) main_v1 hz (fun a => by fin_cases a <;> decide) f
  have h : (win0_5.blk (0 : Fin 1)).view.read (Elt F) (finalA m c (5 : Fin 6)) = outC m := by
    unfold finalA
    rw [show cfg0.N = ((0 : Fin 1) : Fin cfg0.N).val + 1 from rfl, (dats m 0 c).arrAt_succ (5 : Fin 6) (0 : Fin 1)]
    rw [show (cfg0.win (5 : Fin 6)).flush (0 : Fin 1) = true from by decide, if_pos rfl]
    exact View.read_write_univ _ _
  exact (hr _).symm.trans h

/-! ## The operands' staging buffers -/

theorem xstg_eq (c : Dev nD) : xstg m c = m ((c : Thread nD τ).loc main_arg0) :=
  Memref.read_access_unit_zero (Elt F) main_arg0 (funext fun a => by fin_cases a <;> decide) (fun a => by fin_cases a <;> decide) _
theorem wqstg_eq (c : Dev nD) : wqstg m c = m ((c : Thread nD τ).loc main_arg1) :=
  Memref.read_access_unit_zero (Elt F) main_arg1 (funext fun a => by fin_cases a <;> decide) (fun a => by fin_cases a <;> decide) _
theorem wkstg_eq (c : Dev nD) : wkstg m c = m ((c : Thread nD τ).loc main_arg2) :=
  Memref.read_access_unit_zero (Elt F) main_arg2 (funext fun a => by fin_cases a <;> decide) (fun a => by fin_cases a <;> decide) _
theorem wvstg_eq (c : Dev nD) : wvstg m c = m ((c : Thread nD τ).loc main_arg3) :=
  Memref.read_access_unit_zero (Elt F) main_arg3 (funext fun a => by fin_cases a <;> decide) (fun a => by fin_cases a <;> decide) _
theorem wostg_eq (c : Dev nD) : wostg m c = m ((c : Thread nD τ).loc main_arg4) :=
  Memref.read_access_unit_zero (Elt F) main_arg4 (funext fun a => by fin_cases a <;> decide) (fun a => by fin_cases a <;> decide) _

/-- A batch of the activations, loaded. -/
theorem load_batch (off : Fin 3 → Nat) (h : ∀ a, off a + S1x256x768.size a ≤ S2x256x768.size a) (b : Fin 2) (ho : off = ![b.val, 0, 0])
    (f : (cc0_stg0_0 : Ref sig .tc).ty.Contents (Elt F)) (i : Fin 256) (k : Fin 768) :
    xM.view.readAt (Elt F) (xRect off h).toLoadRect f (ix3 0 i k) = f (ix3 b i k) := by
  have e := ValueKit.view_emb_slice_whole_unit_val cc0_stg0_0 off S1x256x768.size h (ix3 0 i k)
  have e0 := (e 0).trans (congrArg (fun o : Fin 3 → Nat => o 0 + 0) ho)
  have e1 := (e 1).trans (congrArg (fun o : Fin 3 → Nat => o 1 + i.val) ho)
  have e2 := (e 2).trans (congrArg (fun o : Fin 3 → Nat => o 2 + k.val) ho)
  refine congrArg f (funext fun a => ?_)
  match a with
  | 0 => exact Fin.ext e0
  | 1 => exact Fin.ext (e1.trans (Nat.zero_add _))
  | 2 => exact Fin.ext (e2.trans (Nat.zero_add _))

/-! ## Rows of the partial products -/

theorem lt_512 (d : Dev nD) (y : Fin 16) : 16 * d.val + y.val < 512 := by
  have h : d.val < 32 := d.isLt
  omega

/-- Sixteen rows of a buffer, read. -/
theorem load_rows (off : Fin 2 → Nat) (h : ∀ a, off a + S16x768.size a ≤ S512x768.size a) (d : Dev nD) (ho : off = ![16 * d.val, 0])
    (f : (cc0_scratch0 : Ref sig .tc).ty.Contents (Elt F)) (y : Fin 16) (n : Fin 768) :
    (pM.access (Rect.unit (s := S512x768) off S16x768.size h)).read (Elt F) f (ix2 y n) = f (ix2 ⟨16 * d.val + y.val, lt_512 d y⟩ n) := by
  have e := ValueKit.view_emb_slice_whole_unit_val cc0_scratch0 off S16x768.size h (ix2 y n)
  have e0 := (e 0).trans (congrArg (fun o : Fin 2 → Nat => o 0 + y.val) ho)
  have e1 := (e 1).trans (congrArg (fun o : Fin 2 → Nat => o 1 + n.val) ho)
  refine congrArg f (funext fun a => ?_)
  match a with
  | 0 => exact Fin.ext e0
  | 1 => exact Fin.ext (e1.trans (Nat.zero_add _))

theorem sent_at (c : Dev nD) (k : Fin 32) (y : Fin 16) (n : Fin 768) :
    sent m c k (ix2 y n) = part m c (ix2 ⟨16 * (peer c k).val + y.val, lt_512 _ y⟩ n) := by
  unfold sent
  exact load_rows (k0_off3 c (wd k)) (off3_inb c k) (peer c k) (off3_eq c k) (part m c) y n

theorem kept_at (c : Dev nD) (y : Fin 16) (n : Fin 768) : kept m c (ix2 y n) = part m c (ix2 ⟨16 * c.val + y.val, lt_512 c y⟩ n) := by
  unfold kept
  exact load_rows (k0_off6 c) (k0_off6_inb c) c (k0_off6_eq c) (part m c) y n

/-- Row `r` of the batch `b` is row `256 * b + r` of the partial products. -/
def batchRow (b : Fin 2) (r : Fin 256) : Fin 512 := ⟨256 * b.val + r.val, by omega⟩

/-- What a store of one batch's rows leaves there. -/
theorem store_batch (off : Fin 2 → Nat) (h : ∀ a, off a + S256x768.size a ≤ S512x768.size a) (b : Fin 2) (ho : off = ![256 * b.val, 0])
    (f : (cc0_scratch0 : Ref sig .tc).ty.Contents (Elt F)) (w : FVec F S256x768 .bf16) (r : Fin 256) (n : Fin 768) :
    (pM.access (Rect.unit (s := S512x768) off S256x768.size h)).write (Elt F) f w Finset.univ (ix2 (batchRow b r) n) = w (ix2 r n) := by
  have e := ValueKit.view_emb_slice_whole_unit_val cc0_scratch0 off S256x768.size h (ix2 r n)
  have e0 := (e 0).trans (congrArg (fun o : Fin 2 → Nat => o 0 + r.val) ho)
  have e1 := (e 1).trans (congrArg (fun o : Fin 2 → Nat => o 1 + n.val) ho)
  have hi : (ix2 (batchRow b r) n : S512x768.Idx) = (pM.access (Rect.unit (s := S512x768) off S256x768.size h)).emb (ix2 r n) := funext fun a => by
    match a with
    | 0 => exact Fin.ext e0.symm
    | 1 => exact Fin.ext (e1.trans (Nat.zero_add _)).symm
  rw [hi, View.write_emb_of_mem _ _ (Finset.mem_univ _)]
  rfl

end Result

/-- The batch a device starts with, and the other. -/
def batch0 (c : Dev nD) : Fin 2 := ⟨c.val / 16, by have h : c.val < 32 := c.isLt; omega⟩
def batch1 (c : Dev nD) : Fin 2 := ⟨1 - c.val / 16, by omega⟩

theorem batch_cases (c : Dev nD) (b : Fin 2) : b = batch0 c ∨ b = batch1 c := by
  have h : c.val < 32 := c.isLt
  rcases Nat.lt_or_ge c.val 16 with h' | h' <;> have hb := b.isLt
  · rcases Nat.lt_or_ge b.val 1 with h1 | h1
    · exact .inl (Fin.ext (by show b.val = c.val / 16; omega))
    · exact .inr (Fin.ext (by show b.val = 1 - c.val / 16; omega))
  · rcases Nat.lt_or_ge b.val 1 with h1 | h1
    · exact .inr (Fin.ext (by show b.val = 1 - c.val / 16; omega))
    · exact .inl (Fin.ext (by show b.val = c.val / 16; omega))

section Rows

variable {F : FTy → Type} [FloatOps F] (m : (ℓ : Loc nD τ sig) → Buf (Elt F) ℓ)

theorem part_first (c : Dev nD) (r : Fin 256) (n : Fin 768) : part m c (ix2 (batchRow (batch0 c) r) n) = first m c (ix2 r n) := by
  have hm : (ix2 (batchRow (batch0 c) r) n : S512x768.Idx) ∈ half0Set c := (mem_half0 c _).mpr (by
    show (256 * (c.val / 16) + r.val) / 256 = c.val / 16
    omega)
  rw [← part_half0 m c (m ((c : Thread nD τ).loc cc0_scratch0)) _ hm]
  exact store_batch (k0_off2 c) (k0_off2_inb c) (batch0 c) (off2_eq c) _ _ r n

theorem part_second (c : Dev nD) (r : Fin 256) (n : Fin 768) : part m c (ix2 (batchRow (batch1 c) r) n) = second m c (ix2 r n) := by
  unfold part stored1
  exact store_batch (k0_off5 c) (k0_off5_inb c) (batch1 c) (off5_eq c) _ _ r n

end Rows

/-! ## The sums, over the extended reals -/

variable (m : (ℓ : Loc nD τ sig) → Buf (Elt Ideal) ℓ)

/-- Device `d`'s partial product at row `r` and column `n`. -/
def partAt (d : Dev nD) (r : Fin 512) (n : Fin 768) : EReal := part m d (ix2 r n)

theorem sent_back (c : Dev nD) (k : Fin 32) (y : Fin 16) (n : Fin 768) :
    @Eq EReal (sent m (peer c k) k (ix2 y n)) (partAt m (peer c k) ⟨16 * c.val + y.val, lt_512 c y⟩ n) := by
  unfold partAt
  refine (sent_at m (peer c k) k y n).trans ?_
  exact congrArg (fun d : Dev nD => part m (peer c k) (ix2 ⟨16 * d.val + y.val, lt_512 d y⟩ n)) (peer_peer c k)

/-- Widening changes nothing. -/
theorem wide_at (b : FVec Ideal S16x768 .bf16) (i : S16x768.Idx) : @Eq EReal (extf .f32 b bitsLt_bf16_f32 i) (b i) := rfl
theorem add_wide_at (a : FVec Ideal S16x768 .f32) (b : FVec Ideal S16x768 .bf16) (i : S16x768.Idx) :
    @Eq EReal (addf a (extf .f32 b bitsLt_bf16_f32) i) ((a i : EReal) + (b i : EReal)) := rfl

theorem addPeer_at (c : Dev nD) (acc : FVec Ideal S16x768 .f32) (k : Fin 32) (y : Fin 16) (n : Fin 768) :
    @Eq EReal (addPeer m c acc k (ix2 y n)) ((acc (ix2 y n) : EReal) + partAt m (peer c k) ⟨16 * c.val + y.val, lt_512 c y⟩ n) := by
  unfold addPeer
  rw [add_wide_at, sent_back]

theorem foldl_at (c : Dev nD) (l : List (Fin 32)) (acc : FVec Ideal S16x768 .f32) (y : Fin 16) (n : Fin 768) :
    l.foldl (addPeer m c) acc (ix2 y n)
      = (acc (ix2 y n) : EReal) + (l.map fun k => partAt m (peer c k) ⟨16 * c.val + y.val, lt_512 c y⟩ n).sum := by
  induction l generalizing acc with
  | nil => exact (add_zero (acc (ix2 y n) : EReal)).symm
  | cons k l ih =>
    rw [List.foldl_cons, ih, List.map_cons, List.sum_cons, ← add_assoc, addPeer_at]

/-- The peers of a device are all devices. -/
theorem sum_peers (c : Dev nD) (f : Dev nD → EReal) : f c + (ks.map fun k => f (peer c k)).sum = ∑ d : Dev nD, f d := by
  have h1 : (ks.map fun k => f (peer c k)).sum = ∑ k ∈ Finset.univ.erase (0 : Fin 32), f (peer c k) := by
    rw [← ks_set, List.sum_toFinset _ ks_nodup]
  have h2 : f c = f (peer c 0) := by rw [peer_zero]
  rw [h1, h2, Finset.add_sum_erase Finset.univ (fun k : Fin 32 => f (peer c k)) (Finset.mem_univ 0)]
  exact (Finite.injective_iff_bijective.mp (fun a b h => peer_inj c a b h)).sum_comp f

theorem total_at (c : Dev nD) (y : Fin 16) (n : Fin 768) :
    @Eq EReal (total m c (ix2 y n)) (∑ d : Dev nD, partAt m d ⟨16 * c.val + y.val, lt_512 c y⟩ n) := by
  unfold total
  rw [foldl_at, ← sum_peers c, wide_at, kept_at]
  rfl

theorem outC_at (r : Fin 512) (n : Fin 768) : @Eq EReal (outC m (ix2 r n)) (∑ d : Dev nD, partAt m d r n) := by
  have h := outC_row m ⟨r.val / 16, by show r.val / 16 < 32; omega⟩ (ix2 ⟨r.val % 16, by omega⟩ n) (ix2 r n)
    (by show r.val = 16 * (r.val / 16) + r.val % 16; omega) rfl
  refine h.trans ((total_at m _ _ n).trans (Finset.sum_congr rfl fun d _ => ?_))
  exact congrArg (fun i : Fin 512 => partAt m d i n) (Fin.ext (by show 16 * (r.val / 16) + r.val % 16 = r.val; omega))

/-! ## Against the reference -/

section Against

variable (X : FVec Ideal Cert.ReferenceIdeal.S2x256x768 .bf16) (WQ WK WV : FVec Ideal Cert.ReferenceIdeal.S768x8192 .bf16)
  (WO : FVec Ideal Cert.ReferenceIdeal.S8192x768 .bf16)

/-- A block of columns is device `c`'s columns. -/
theorem cols_block (c : Fin 32) (W : FVec Ideal Cert.ReferenceIdeal.S768x8192 .bf16) (h : Layout.Tiles ⟨2, ![768, 256]⟩ ⟨2, ![768, 8192]⟩ 1 32)
    (k : Fin 768) (n : Fin 256) : Layout.block ⟨2, ![768, 256]⟩ ⟨2, ![768, 8192]⟩ 1 32 c W h (ix2 k n) = W (ix2 k (col c n)) := by
  rw [Layout.block_apply]
  refine congrArg W (funext fun a => ?_)
  match a with
  | 0 => rfl
  | 1 => rfl

/-- A block of rows is the rows of device `c`'s columns. -/
theorem rows_block (c : Fin 32) (W : FVec Ideal Cert.ReferenceIdeal.S8192x768 .bf16) (h : Layout.Tiles ⟨2, ![256, 768]⟩ ⟨2, ![8192, 768]⟩ 0 32)
    (k : Fin 256) (n : Fin 768) : Layout.block ⟨2, ![256, 768]⟩ ⟨2, ![8192, 768]⟩ 0 32 c W h (ix2 k n) = W (ix2 (col c k) n) := by
  rw [Layout.block_apply]
  refine congrArg W (funext fun a => ?_)
  match a with
  | 0 => rfl
  | 1 => rfl

/-- The operands of every device are its pieces of the reference's. -/
def Given : Prop := ∀ c : Dev nD,
  m ((c : Thread nD τ).loc main_arg0) = X
  ∧ m ((c : Thread nD τ).loc main_arg1) = Layout.block ⟨2, ![768, 256]⟩ ⟨2, ![768, 8192]⟩ 1 32 c WQ
  ∧ m ((c : Thread nD τ).loc main_arg2) = Layout.block ⟨2, ![768, 256]⟩ ⟨2, ![768, 8192]⟩ 1 32 c WK
  ∧ m ((c : Thread nD τ).loc main_arg3) = Layout.block ⟨2, ![768, 256]⟩ ⟨2, ![768, 8192]⟩ 1 32 c WV
  ∧ m ((c : Thread nD τ).loc main_arg4) = Layout.block ⟨2, ![256, 768]⟩ ⟨2, ![8192, 768]⟩ 0 32 c WO

variable {m X WQ WK WV WO}

theorem half_given (hg : Given m X WQ WK WV WO) (b : Fin 2) (c : Dev nD) (x : FVec Ideal S1x256x768 .bf16) (hx : ∀ i k, x (ix3 0 i k) = xstg m c (ix3 b i k))
    (i : Fin 256) (n : Fin 768) : halfOut x (wqstg m c) (wkstg m c) (wvstg m c) (wostg m c) (ix2 i n)
      = ∑ k : Fin 256, refCtx X WQ WK WV (ix3 b i (col c k)) * WO (ix2 (col c k) n) := by
  obtain ⟨h0, h1, h2, h3, h4⟩ := hg c
  refine half_match b c x _ _ _ _ X WQ WK WV WO (fun i k => ?_) (fun k n => ?_) (fun k n => ?_) (fun k n => ?_) (fun k n => ?_) i n
  · rw [hx, xstg_eq, h0]
  · rw [wqstg_eq, h1]; exact cols_block c WQ _ k n
  · rw [wkstg_eq, h2]; exact cols_block c WK _ k n
  · rw [wvstg_eq, h3]; exact cols_block c WV _ k n
  · rw [wostg_eq, h4]; exact rows_block c WO _ k n

theorem partAt_given (hg : Given m X WQ WK WV WO) (c : Dev nD) (b : Fin 2) (i : Fin 256) (n : Fin 768) :
    partAt m c (batchRow b i) n = ∑ k : Fin 256, refCtx X WQ WK WV (ix3 b i (col c k)) * WO (ix2 (col c k) n) := by
  unfold partAt
  rcases batch_cases c b with rfl | rfl
  · rw [part_first]
    exact half_given hg (batch0 c) c _ (fun i k => load_batch _ _ (batch0 c) (off1_eq c) _ i k) i n
  · rw [part_second]
    exact half_given hg (batch1 c) c _ (fun i k => load_batch _ _ (batch1 c) (off4_eq c) _ i k) i n

theorem outC_given (hg : Given m X WQ WK WV WO) : outC m = Cert.RopeRef.out X WQ WK WV WO := by
  funext j
  have hj : (j : S512x768.Idx) = ix2 (j 0) (j 1) := eq_ix2 j
  rw [hj]
  refine (outC_at m (j 0) (j 1)).trans (Eq.trans ?_ (Cert.RopeRef.out_at X WQ WK WV WO (j 0) (j 1)).symm)
  rw [sum_cols]
  refine Finset.sum_congr rfl fun d _ => ?_
  have hr : (j 0 : Fin 512) = batchRow ⟨(j 0).val / 256, Nat.div_lt_of_lt_mul (j 0).isLt⟩ ⟨(j 0).val % 256, Nat.mod_lt _ (by decide)⟩ :=
    Fin.ext (Nat.div_add_mod (j 0).val 256).symm
  exact (congrArg (fun r : Fin 512 => partAt m d r (j 1)) hr).trans (partAt_given hg d _ _ _)

end Against

/-- Over the extended reals every device's result is the reference's. -/
theorem algebraic : Cert.algebraic_KernelIdeal_ReferenceIdeal (hKernelIdeal := Cert.KernelIdeal.Gen.facts)
    (hReferenceIdeal := Cert.ReferenceIdeal.Gen.facts) := fun m g m' g' _ hagree =>
  ⟨Cert.ReferenceIdeal.Value.res_main_v87 m' 0,
    (θ_run defs _ _).mono (fun _ h c => ⟨((h.1 c 5).trans (finalA_out m c)).trans ((outC_given hagree).trans (Cert.RopeRef.res_eq m' 0).symm),
      (h.1 c 0).trans (finalA_in m c 0 rfl), (h.1 c 1).trans (finalA_in m c 1 rfl), (h.1 c 2).trans (finalA_in m c 2 rfl),
      (h.1 c 3).trans (finalA_in m c 3 rfl), (h.1 c 4).trans (finalA_in m c 4 rfl)⟩) (run_main m g),
    (θ_run Cert.ReferenceIdeal.defs _ _).mono (fun _ h => h 0) (Cert.ReferenceIdeal.Value.run m' g')⟩

end Cert.RopeRun
-- ==== Proof.lean ====
/-
The claims: each program ends with its arguments unchanged and its counters at zero, and over the extended reals every
device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.RopeRun.frame_kernel, Cert.RopeRun.frame_ideal, Cert.RopeRun.frame_reference, trivial, Cert.RopeRun.algebraic⟩

end Cert.Proof

end
